-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range_KernelIdeal [hPre_labels_in_range_KernelIdeal : Cert.Pre_labels_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_ReferenceIdeal [hPre_labels_in_range_ReferenceIdeal : Cert.Pre_labels_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_range_KernelIdeal [hKernelIdeal : Cert.KernelIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range_ReferenceIdeal [hReferenceIdeal : Cert.ReferenceIdeal.Facts] [hPre_labels_in_range_ReferenceIdeal : Cert.Pre_labels_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_range_KernelIdeal [hKernelIdeal : Cert.KernelIdeal.Facts] [hReferenceIdeal : Cert.ReferenceIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range_KernelIdeal : Cert.Pre_labels_in_range_KernelIdeal.Facts) (hPre_labels_in_range_ReferenceIdeal : Cert.Pre_labels_in_range_ReferenceIdeal.Facts),
    quiescent_Kernel (hKernel := hKernel)
    ∧ quiescent_KernelIdeal (hKernelIdeal := hKernelIdeal)
    ∧ quiescent_KernelIdeal_pre_labels_in_range_KernelIdeal (hKernelIdeal := hKernelIdeal) (hPre_labels_in_range_KernelIdeal := hPre_labels_in_range_KernelIdeal)
    ∧ quiescent_ReferenceIdeal (hReferenceIdeal := hReferenceIdeal)
    ∧ quiescent_ReferenceIdeal_pre_labels_in_range_ReferenceIdeal (hReferenceIdeal := hReferenceIdeal) (hPre_labels_in_range_ReferenceIdeal := hPre_labels_in_range_ReferenceIdeal)
    ∧ preserves_Kernel_KernelIdeal
    ∧ algebraic_KernelIdeal_ReferenceIdeal_pre_labels_in_range_KernelIdeal (hKernelIdeal := hKernelIdeal) (hReferenceIdeal := hReferenceIdeal) (hPre_labels_in_range_KernelIdeal := hPre_labels_in_range_KernelIdeal)
-- ==== Pre_labels_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S256x512 .f32) (main_arg1 : FVec F S512x4096 .f32) (main_arg2 : IVec S256 32) : IVec S_ 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 8192#32
  let main_v2 : IVec S256 32 := broadcastInDim S256 ![] bcast_S_S256 main_c_0
  let main_v3 : IVec S256 1 := cmpi .slt main_arg2 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  main_v5
-- ==== Pre_labels_in_range_ReferenceIdeal.lean ====
abbrev S256x512 : Shape := ⟨2, ![256, 512]⟩
abbrev S512x8192 : Shape := ⟨2, ![512, 8192]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S256x512 .f32) (main_arg1 : FVec F S512x8192 .f32) (main_arg2 : IVec S256 32) : IVec S_ 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 8192#32
  let main_v2 : IVec S256 32 := broadcastInDim S256 ![] bcast_S_S256 main_c_0
  let main_v3 : IVec S256 1 := cmpi .slt main_arg2 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  main_v5
-- ==== Kernel.lean ====
abbrev S256x512 : Shape := ⟨2, ![256, 512]⟩
abbrev S512x4096 : Shape := ⟨2, ![512, 4096]⟩
abbrev S256 : Shape := ⟨1, ![256]⟩
abbrev S1x256 : Shape := ⟨2, ![1, 256]⟩
abbrev S3x256 : Shape := ⟨2, ![3, 256]⟩
abbrev S2 : Shape := ⟨1, ![2]⟩
abbrev S_ : Shape := ⟨0, ![]⟩
abbrev S1 : Shape := ⟨1, ![1]⟩
abbrev S512x2048 : Shape := ⟨2, ![512, 2048]⟩
abbrev S256x2048 : Shape := ⟨2, ![256, 2048]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S1x256, .i32⟩
  | .hbm, ⟨4, _⟩ => ⟨S256, .f32⟩
  | .local _ .vmem, ⟨0, _⟩ => ⟨S256, .f32⟩
  | .local _ .vmem, ⟨1, _⟩ => ⟨S256x512, .f32⟩
  | .local _ .vmem, ⟨2, _⟩ => ⟨S512x4096, .f32⟩
  | .local _ .vmem, ⟨3, _⟩ => ⟨S1x256, .i32⟩
  | .local _ .vmem, ⟨4, _⟩ => ⟨S3x256, .f32⟩
  | .local _ .vmem, ⟨5, _⟩ => ⟨S3x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v91 : BitVec 32 := Scalar.muli v2 c2_i32_50
  let v92 : BitVec 32 := Scalar.addi c0_i32_51 v91
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v93 : BitVec 32 := Scalar.muli v6 c1_i32_52
  let v94 : BitVec 32 := Scalar.addi v92 v93
  v94.toNat
abbrev stage0_0 : Fin 1 → Memref sig .tc .vmem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256, .i32⟩
  | .hbm, ⟨3, _⟩ => ⟨S256x8192, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x8192, .f32⟩
  | .hbm, ⟨8, _⟩ => ⟨S256x8192, .f32⟩
  | .hbm, ⟨9, _⟩ => ⟨S256x8192, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.KernelIdeal.Protocol.lean ====
/-
  The exchange protocol of the kernel: the cells, what each landing pays, the levels, and the ghost state a device carries.

  Two devices that differ in the second mesh coordinate are peers. A device lends its receive buffer to its peer through the
  barrier semaphore, brings its operands on chip by four local copies, and sends its three rows of partial results to the
  peer's receive buffer. Each of the seven semaphores used is one cell with one round and one duty.
-/
module

public import proofs.«01_k».proof.Proof.Gen.KernelIdeal.Skeleton
public import proofs.«01_k».proof.Proof.Gen.KernelIdeal.Frame
public import Idealize.ShloMosaic.Lib.Pipeline.RegionTalk

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The resource algebra: the pipeline's rounds beside the exchange's. -/
abbrev UU : Type := UR sig nD τ × UR sig nD τ

local notation "𝕄" => MT nD τ sig Unit (Elt F) ℕ UU ℕ

/-- Where the call's bookkeeping lives in the ghost state. -/
abbrev EP : Emb (UR sig nD τ) (MT nD τ sig Unit (Elt F) ℕ UU ℕ) := embL
/-- Where the rounds' bookkeeping lives in the ghost state. -/
abbrev ER : Emb (UR sig nD τ) (MT nD τ sig Unit (Elt F) ℕ UU ℕ) := embR

variable (m : (ℓ : Loc nD τ sig) → Buf (Elt F) ℓ) (ρ : Dev nD → PrngReg)

/-! ## Peers -/

/-- The device that holds the other half of the columns. -/
def peer (c : Dev nD) : Dev nD := ⟨2 * (c.val / 2) + 1 - c.val % 2, by have := c.isLt; simp only [nD] at *; omega⟩
/-- A device is its peer's peer. -/
theorem peer_peer (c : Dev nD) : peer (peer c) = c := by revert c; decide
/-- The signal and the transfer address the peer. -/
theorem dev1_eq (c : Dev nD) : (⟨k0_dev1 c, k0_dev1_lt c⟩ : Dev nD) = peer c := Fin.ext (k0_dev1_eq c)
/-- The device that the remote copy names is the peer. -/
theorem dev2_eq (c : Dev nD) : (⟨k0_dev2 c, k0_dev2_lt c⟩ : Dev nD) = peer c := Fin.ext (k0_dev2_eq c)
/-- Peering as a permutation. -/
def swap : Dev nD ≃ Dev nD := ⟨peer, peer, peer_peer, peer_peer⟩

/-! ## Buffers and semaphores -/

abbrev aX : Memref sig .tc .hbm S256x512 .f32 := Memref.whole main_arg0
abbrev aW : Memref sig .tc .hbm S512x4096 .f32 := Memref.whole main_arg1
abbrev aL : Memref sig .tc .hbm S1x256 .i32 := Memref.whole main_v1
abbrev bX : Memref sig .tc .vmem S256x512 .f32 := Memref.whole cc0_scratch0
abbrev bW : Memref sig .tc .vmem S512x4096 .f32 := Memref.whole cc0_scratch1
abbrev bL : Memref sig .tc .vmem S1x256 .i32 := Memref.whole cc0_scratch2
abbrev bS : Memref sig .tc .vmem S3x256 .f32 := Memref.whole cc0_scratch3
abbrev bR : Memref sig .tc .vmem S3x256 .f32 := Memref.whole cc0_scratch4
abbrev bO : Memref sig .tc .vmem S256 .f32 := Memref.whole cc0_stg0_0

/-- The two column windows of the weights. -/
abbrev rect0 : Rect S512x4096 := Rect.unit (s := S512x4096) ![0, 0] S512x2048.size inb_S512x4096_S512x2048_0_0
abbrev rect1 : Rect S512x4096 := Rect.unit (s := S512x4096) ![0, 2048] S512x2048.size inb_S512x4096_S512x2048_0_2048
abbrev aW0 : Memref sig .tc .hbm S512x2048 .f32 := aW.slice rect0 (fun _ => rfl)
abbrev aW1 : Memref sig .tc .hbm S512x2048 .f32 := aW.slice rect1 (fun _ => rfl)
abbrev bW0 : Memref sig .tc .vmem S512x2048 .f32 := bW.slice rect0 (fun _ => rfl)
abbrev bW1 : Memref sig .tc .vmem S512x2048 .f32 := bW.slice rect1 (fun _ => rfl)

/-- The whole windows of the row operand, the labels and the result; the three rows of an exchange buffer. -/
abbrev rectX : Rect S256x512 := Rect.unit (s := S256x512) ![0, 0] S256x512.size inb_S256x512_S256x512_0_0
abbrev rectL : Rect S1x256 := Rect.unit (s := S1x256) ![0, 0] S1x256.size inb_S1x256_S1x256_0_0
abbrev rectO : Rect S256 := Rect.unit (s := S256) ![0] S256.size inb_S256_S256_0
abbrev row0 : Rect S3x256 := Rect.unit (s := S3x256) ![0, 0] S1x256.size inb_S3x256_S1x256_0_0
abbrev row1 : Rect S3x256 := Rect.unit (s := S3x256) ![1, 0] S1x256.size inb_S3x256_S1x256_1_0
abbrev row2 : Rect S3x256 := Rect.unit (s := S3x256) ![2, 0] S1x256.size inb_S3x256_S1x256_2_0

abbrev barS : Sem sig := (SemArray.scalar (sig.barrier 0 rfl) : Sems sig S_).sem
abbrev w0S : DmaSem sig := ((cc0_scratch5.slice (Rect.unit (s := S2) ![0] S1.size inb_S2_S1_0)).squeeze S_ squeezes_S1_S_ : DmaSems sig S_).sem
abbrev w1S : DmaSem sig := ((cc0_scratch5.slice (Rect.unit (s := S2) ![1] S1.size inb_S2_S1_1)).squeeze S_ squeezes_S1_S_ : DmaSems sig S_).sem
abbrev xS : DmaSem sig := (cc0_scratch6 : DmaSems sig S_).sem
abbrev lS : DmaSem sig := (cc0_scratch7 : DmaSems sig S_).sem
abbrev sendS : DmaSem sig := (cc0_scratch8 : DmaSems sig S_).sem
abbrev recvS : DmaSem sig := (cc0_scratch9 : DmaSems sig S_).sem

/-- A device's cell at a semaphore. -/
abbrev cell (c : Dev nD) (s : SemLoc sig) : GSem nD τ sig := ((c : Thread nD τ), s)
abbrev barCell (c : Dev nD) : GSem nD τ sig := cell c (.reg barS)
abbrev recvCell (c : Dev nD) : GSem nD τ sig := cell c (.dma recvS)

/-- The kernel's own semaphores. -/
abbrev osem : Fin 6 → SemLoc sig := fun
  | 0 => .dma w0S | 1 => .dma w1S | 2 => .dma xS | 3 => .dma lS | 4 => .dma sendS | 5 => .dma recvS

/-- A semaphore's number: the barrier 0, a transfer semaphore its index and one. -/
def code : SemLoc sig → ℕ
  | .reg _ => 0
  | .dma q => q.val + 1

/-- The barrier semaphore's number. -/
theorem code_bar : code (.reg barS) = 0 := rfl
/-- The first weight window's semaphore number. -/
theorem code_w0 : code (.dma w0S) = 2 := by decide
/-- The second weight window's semaphore number. -/
theorem code_w1 : code (.dma w1S) = 3 := by decide
/-- The activations' semaphore number. -/
theorem code_x : code (.dma xS) = 4 := by decide
/-- The labels' semaphore number. -/
theorem code_l : code (.dma lS) = 5 := by decide
/-- The send semaphore's number. -/
theorem code_send : code (.dma sendS) = 6 := by decide
/-- The receive semaphore's number. -/
theorem code_recv : code (.dma recvS) = 7 := by decide

/-! ## The values -/

/-- What a device reads of its operands. -/
def xVal (c : Dev nD) : Vec F S256x512 .f32 := bX.view.readAt (Elt F) rectX.toLoadRect (V m c main_arg0)
/-- The labels a device reads on chip. -/
def labVal (c : Dev nD) : Vec F S1x256 .i32 := bL.view.readAt (Elt F) rectL.toLoadRect (V m c main_v1)
/-- The first window of weights a device reads on chip. -/
def w0Val (c : Dev nD) : Vec F S512x2048 .f32 := bW.view.readAt (Elt F) rect0.toLoadRect (V m c main_arg1)
/-- The second window of weights a device reads on chip. -/
def w1Val (c : Dev nD) : Vec F S512x2048 .f32 := bW.view.readAt (Elt F) rect1.toLoadRect (V m c main_arg1)

/-- The running maximum, exponential sum and picked logit after the first window of columns. -/
def max0 (c : Dev nD) : FVec F S256 .f32 := k0_pay5 (xVal m c) k0_pay3 (w0Val m c)
/-- The running sum after the first window. -/
def sum0 (c : Dev nD) : FVec F S256 .f32 := k0_pay6 (xVal m c) k0_pay3 (w0Val m c)
/-- The label's logit, or zero, after the first window. -/
def tgt0 (c : Dev nD) : FVec F S256 .f32 := k0_pay7 (xVal m c) (k0_pay2 c (labVal m c)) (w0Val m c)
/-- The second window's logits, and the three after both windows. -/
def log1 (c : Dev nD) : FVec F S256x2048 .f32 := k0_pay8 (xVal m c) (w1Val m c)
/-- The running maximum after both windows. -/
def max1 (c : Dev nD) : FVec F S256 .f32 := k0_pay9 (max0 m c) (log1 m c)
/-- The running sum after both windows. -/
def sum1 (c : Dev nD) : FVec F S256 .f32 := k0_pay10 (max0 m c) (sum0 m c) (log1 m c)
/-- The label's logit, or zero, after both windows. -/
def tgt1 (c : Dev nD) : FVec F S256 .f32 :=
  k0_pay11 (k0_pay2 c (labVal m c)) (iota .tc S256x2048 32 [1] iota_S256x2048_d1_w32) (tgt0 m c) (log1 m c)
/-- The rows a device sends. -/
def out0 (c : Dev nD) : FVec F S1x256 .f32 := k0_pay12 (max0 m c) (log1 m c)
/-- The second row sent: the running sum. -/
def out1 (c : Dev nD) : FVec F S1x256 .f32 := k0_pay13 (max0 m c) (sum0 m c) (log1 m c)
/-- The third row sent: the label's logit or zero. -/
def out2 (c : Dev nD) : FVec F S1x256 .f32 :=
  k0_pay14 (k0_pay2 c (labVal m c)) (iota .tc S256x2048 32 [1] iota_S256x2048_d1_w32) (tgt0 m c) (log1 m c)
/-- The device's result: its own three values merged with its peer's rows. -/
def result (c : Dev nD) : FVec F S256 .f32 :=
  k0_pay1 (max1 m c) (sum1 m c) (tgt1 m c) (out0 m (peer c)) (out1 m (peer c)) (out2 m (peer c))

/-- An exchange buffer's three rows are what device `c` computed. -/
def Rows (c : Dev nD) (f : (cc0_scratch4 : Ref sig .tc).ty.Contents (Elt F)) : Prop :=
  bR.view.readAt (Elt F) row0.toLoadRect f = out0 m c ∧ bR.view.readAt (Elt F) row1.toLoadRect f = out1 m c
    ∧ bR.view.readAt (Elt F) row2.toLoadRect f = out2 m c

/-! ## The schedule -/

/-- A buffer region held through a view. -/
abbrev at' {sp : Space} {s : Shape} {e : EltTy} (c : Dev nD) (a : Memref sig .tc sp s e) (f : Buf (Elt F) (a.view.loc (c : Thread nD τ))) : sProp 𝕄 :=
  a.view.loc (c : Thread nD τ) ↦[a.view.set]{fullShare} f

/-- What the landing on each of device `c`'s cells pays, by the semaphore's number: the peer's receive buffer with its cell open;
    the two weight windows, the rows and the labels on chip with their sources; the sent buffer; the peer's rows received. -/
def payOf (c : Dev nD) : ℕ → sProp 𝕄
  | 0 => iprop((∃ f, at' (peer c) bR f) ∗ reached ER (recvCell (peer c)) 0)
  | 2 => iprop(at' c bW0 (V m c main_arg1) ∗ at' c aW0 (V m c main_arg1))
  | 3 => iprop(at' c bW1 (V m c main_arg1) ∗ at' c aW1 (V m c main_arg1))
  | 4 => iprop(at' c bX (V m c main_arg0) ∗ at' c aX (V m c main_arg0))
  | 5 => iprop(at' c bL (V m c main_v1) ∗ at' c aL (V m c main_v1))
  | 6 => iprop(∃ f, at' c bS f)
  | 7 => iprop(∃ f, ⌜Rows m (peer c) f⌝ ∗ at' c bR f)
  | _ => iprop(emp)

/-- What a landing hands over can be kept in an invariant. -/
instance payOf_storable (c : Dev nD) (n : ℕ) : BI.Storable (upEmb : UEmb _ 𝕄) (payOf (F := F) m c n) := by
  unfold payOf
  split <;> infer_instance

/-- The units that one landing of the receive buffer brings. -/
abbrev NR : ℕ := (bR : Memref sig .tc .vmem S3x256 .f32).view.dmaCredit

/-- How much each landing adds. -/
def amt : ℕ → ℕ
  | 2 => (bW0 : Memref sig .tc .vmem S512x2048 .f32).view.dmaCredit
  | 3 => (bW1 : Memref sig .tc .vmem S512x2048 .f32).view.dmaCredit
  | 4 => (bX : Memref sig .tc .vmem S256x512 .f32).view.dmaCredit
  | 5 => (bL : Memref sig .tc .vmem S1x256 .i32).view.dmaCredit
  | 6 => NR
  | 7 => NR
  | _ => 1

/-- Every duty brings at least one unit. -/
theorem amt_pos (n : ℕ) : 0 < amt n := by
  unfold amt
  split <;> first | exact View.dmaCredit_pos _ (by decide) | exact Nat.one_pos

/-- One round of one duty on every cell but the staging one. -/
def sched : Rounds.Schedule (GSem nD τ sig) Unit 𝕄 where
  duties g r := if r = 0 ∧ g.1.2 = .tc ∧ code g.2 ≠ 1 then {()} else ∅
  unitless _ := False
  amount g _ _ := amt (code g.2)
  payload g _ _ := payOf m g.1.1 (code g.2)
  amount_pos g _ _ _ := amt_pos _

/-- What the schedule hands over can be kept in an invariant. -/
instance sched_payload_storable (g : GSem nD τ sig) (r : ℕ) (d : Unit) :
    BI.Storable (upEmb : UEmb _ 𝕄) ((sched (F := F) m).payload g r d) := payOf_storable m g.1.1 (code g.2)

section Sched

variable (c : Dev nD) (s : SemLoc sig)

/-- A used cell has one duty in its first round. -/
theorem duties_zero (h : code s ≠ 1) : (sched (F := F) m).duties (cell c s) 0 = {()} := by
  dsimp only [sched]; exact if_pos ⟨rfl, rfl, h⟩
/-- That duty is one of the first round's. -/
theorem duty_mem (h : code s ≠ 1) : () ∈ (sched (F := F) m).duties (cell c s) 0 := by
  rw [duties_zero m c s h]; exact Finset.mem_singleton_self _
/-- Later rounds have no duties. -/
theorem duties_later (g : GSem nD τ sig) : ∀ r, 1 ≤ r → (sched (F := F) m).duties g r = ∅ :=
  fun r hr => by dsimp only [sched]; rw [if_neg (fun h => by omega)]
/-- The first duty's units are the table's. -/
theorem amount_eq : (sched (F := F) m).amount (cell c s) 0 () = amt (code s) := rfl
/-- A first round expects the table's units. -/
theorem expect_eq (h : code s ≠ 1) : (sched (F := F) m).expect (cell c s) 0 = amt (code s) := by
  unfold Schedule.expect Schedule.amountOf; rw [duties_zero m c s h, Finset.sum_singleton]; rfl
/-- With nothing paid yet, what the first round still hands over is its whole payload. -/
theorem rest_eq (h : code s ≠ 1) :
    bigSep ((sched (F := F) m).duties (cell c s) 0 \ ∅) (fun u => (sched (F := F) m).payload (cell c s) 0 u) = payOf m c (code s) := by
  rw [Finset.sdiff_empty, duties_zero m c s h, bigSep_singleton]; rfl

end Sched

/-! ## What each device owes; the levels -/

/-- The landing on the peer's receive cell, and the unit on its barrier. -/
def due (c : Dev nD) : CellTallies nD τ sig Unit := tallyAt (recvCell (peer c)) () NR + tallyAt (barCell (peer c)) () 1

/-- The levels are kept at the compute cores' cells. -/
def L (g : GSem nD τ sig) : Finset Unit := if g.1.2 = .tc then {()} else ∅
/-- The barrier at 1, the receive cells at 2, the rest at 0. -/
def lv (g : GSem nD τ sig) (_ : Unit) : ℕ := if code g.2 = 0 then 1 else if code g.2 = 7 then 2 else 0

/-- Other cells have no level. -/
theorem L_of_ne (g : GSem nD τ sig) (h : g.1.2 ≠ .tc) : L g = ∅ := if_neg h
/-- A compute core's cell has its level. -/
theorem L_tc (c : Dev nD) (sm : SemLoc sig) : () ∈ L (cell c sm) := by
  unfold L; rw [if_pos rfl]; exact Finset.mem_singleton_self _

/-- The receive cell's level. -/
theorem lv_recv (c : Dev nD) (u : Unit) : lv (recvCell c) u = 2 := by
  unfold lv; dsimp only; rw [code_recv, if_neg (by decide), if_pos rfl]
/-- The barrier cell's level. -/
theorem lv_bar (c : Dev nD) (u : Unit) : lv (barCell c) u = 1 := by
  unfold lv; dsimp only; rw [code_bar, if_pos rfl]
/-- Every other cell's level is at most the barrier's. -/
theorem lv_le (c : Dev nD) (s : SemLoc sig) (h : code s ≠ 7) : lv (cell c s) () ≤ 1 := by
  unfold lv; dsimp only; rw [if_neg h]; split <;> decide

/-- A device may wait on any cell but a receive cell while it owes the landing at its peer. -/
theorem mayWait (c : Dev nD) (s : SemLoc sig) (h : code s ≠ 7) :
    (levAts L lv : sProp 𝕄) ⊢ MayWait (c : Thread nD τ) s () (tallyAt (recvCell (peer c)) () NR) :=
  MayOwe.of_cut (L := L) (lev := lv) 1 (fun p hp => by rw [Finset.mem_singleton.mp hp]; exact L_tc c s)
    (fun g u hg => by
      rw [tallyAt_apply] at hg
      by_cases h : g = recvCell (peer c) ∧ u = ()
      · rw [h.1]; exact L_tc _ _
      · rw [if_neg h] at hg; exact absurd hg (Nat.lt_irrefl 0))
    (fun p hp => by rw [Finset.mem_singleton.mp hp]; exact lv_le c s h)
    (fun g u hg => by
      rw [tallyAt_apply] at hg
      by_cases h : g = recvCell (peer c) ∧ u = ()
      · rw [h.1, lv_recv]; decide
      · rw [if_neg h] at hg; exact absurd hg (Nat.lt_irrefl 0))

/-- A device owes only on its peer's receive and barrier cells. -/
theorem due_pos {c : Dev nD} {g : GSem nD τ sig} {u : Unit} (h : 0 < due c g u) : g = recvCell (peer c) ∨ g = barCell (peer c) := by
  unfold due at h
  rw [Pi.add_apply, Finsupp.add_apply, tallyAt_apply, tallyAt_apply] at h
  by_cases h1 : g = recvCell (peer c) ∧ u = ()
  · exact .inl h1.1
  · by_cases h2 : g = barCell (peer c) ∧ u = ()
    · exact .inr h2.1
    · rw [if_neg h1, if_neg h2] at h; exact absurd h (Nat.lt_irrefl 0)

/-! ## The ghost state -/

/-- The invariants a device opens: its own seven cells, its peer's barrier and receive cells. -/
def invs (K : GSem nD τ sig → ℕ) (c : Dev nD) : sProp 𝕄 :=
  iprop(cellInv ER (sched m) (K (barCell c)) (barCell c)
    ∗ cellInv ER (sched m) (K (cell c (.dma w0S))) (cell c (.dma w0S)) ∗ cellInv ER (sched m) (K (cell c (.dma w1S))) (cell c (.dma w1S))
    ∗ cellInv ER (sched m) (K (cell c (.dma xS))) (cell c (.dma xS)) ∗ cellInv ER (sched m) (K (cell c (.dma lS))) (cell c (.dma lS))
    ∗ cellInv ER (sched m) (K (cell c (.dma sendS))) (cell c (.dma sendS)) ∗ cellInv ER (sched m) (K (recvCell c)) (recvCell c)
    ∗ cellInv ER (sched m) (K (barCell (peer c))) (barCell (peer c)) ∗ cellInv ER (sched m) (K (recvCell (peer c))) (recvCell (peer c)))

/-- The cells' invariants may be used any number of times. -/
instance invs_persistent (K : GSem nD τ sig → ℕ) (c : Dev nD) : BI.Persistent (invs m K c) := by unfold invs; infer_instance

/-- The tokens of the duties a device pays: the peer's barrier, its own five transfers, the peer's receive cell. -/
def paid (c : Dev nD) : sProp 𝕄 :=
  iprop(dutyTok ER (barCell (peer c)) 0 () ∗ dutyTok ER (cell c (.dma w0S)) 0 () ∗ dutyTok ER (cell c (.dma w1S)) 0 ()
    ∗ dutyTok ER (cell c (.dma xS)) 0 () ∗ dutyTok ER (cell c (.dma lS)) 0 () ∗ dutyTok ER (cell c (.dma sendS)) 0 ()
    ∗ dutyTok ER (recvCell (peer c)) 0 ())

/-- The rights to open the device's six own cells. -/
def rights (c : Dev nD) : sProp 𝕄 :=
  iprop(openTok ER (cell c (.dma w0S)) ∗ openTok ER (cell c (.dma w1S)) ∗ openTok ER (cell c (.dma xS)) ∗ openTok ER (cell c (.dma lS))
    ∗ openTok ER (cell c (.dma sendS)) ∗ openTok ER (recvCell c))

/-- From launch: the six own cells still to be opened. -/
def ghost (K : GSem nD τ sig → ℕ) (c : Dev nD) : sProp 𝕄 :=
  iprop(invs m K c ∗ atPos ER (barCell c) 0 ∅ 0 ∗ reached ER (barCell (peer c)) 0 ∗ rights c ∗ paid c)

/-- A cell opened, at its first round. -/
abbrev fresh (g : GSem nD τ sig) : sProp 𝕄 := iprop(atPos ER g 0 ∅ 0 ∗ reached ER g 0)

/-- In the kernel: all seven cells open at round 0. -/
def opened (K : GSem nD τ sig → ℕ) (c : Dev nD) : sProp 𝕄 :=
  iprop(invs m K c ∗ atPos ER (barCell c) 0 ∅ 0 ∗ reached ER (barCell (peer c)) 0
    ∗ (fresh (cell c (.dma w0S)) ∗ fresh (cell c (.dma w1S)) ∗ fresh (cell c (.dma xS)) ∗ fresh (cell c (.dma lS))
      ∗ fresh (cell c (.dma sendS)) ∗ fresh (recvCell c)) ∗ paid c)

/-- A cell past its round closes: its counter is the device's again, at zero. -/
theorem close (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_later m g)

/-- A dormant cell opens on its counter at zero. -/
theorem open' (κ : ℕ) (g : GSem nD τ sig) :
    iprop(cellInv ER (sched m) κ g ∗ openTok ER g ∗ semVal g 0) ⊢ (|={Set.univ}=> fresh g : sProp 𝕄) :=
  Rounds.cell_open ER (sched m) (Set.mem_univ κ)

/-- No loop of the program needs a measure. -/
abbrev 𝒱₀ : Variants := Variants.none

end Cert.KernelIdeal.Exchange

end
-- ==== Proof.KernelIdeal.Steps.lean ====
/-
  The single steps of the kernel's body: what a copy or a store leaves in a buffer, and one rule for each kind of transfer,
  signal and wait the body makes.
-/
module

public import proofs.«01_k».proof.Proof.KernelIdeal.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The two column windows make the whole buffer -/

/-- The two windows share no element. -/
theorem rect_disjoint : Disjoint rect0.set rect1.set :=
  LoadRect.disjoint_of_separated rect0.toLoadRect rect1.toLoadRect 1 (.inl (.inr (by decide)))

/-- The two windows hold every element. -/
theorem rect_union : rect0.set ∪ rect1.set = Finset.univ := by
  refine Finset.eq_univ_iff_forall.mpr fun i => ?_
  rw [Finset.mem_union]
  have h0 : (i 0 : ℕ) < 512 := (i 0).isLt
  have h1 : (i 1 : ℕ) < 4096 := (i 1).isLt
  by_cases h : (i 1 : ℕ) < 2048
  · refine .inl (Rect.mem_set_unit.mpr ?_)
    intro a
    fin_cases a
    · exact ⟨Nat.zero_le _, by show (i 0 : ℕ) < 0 + 512; omega⟩
    · exact ⟨Nat.zero_le _, by show (i 1 : ℕ) < 0 + 2048; omega⟩
  · refine .inr (Rect.mem_set_unit.mpr ?_)
    intro a
    fin_cases a
    · exact ⟨Nat.zero_le _, by show (i 0 : ℕ) < 0 + 512; omega⟩
    · exact ⟨by show 2048 ≤ (i 1 : ℕ); omega, by show (i 1 : ℕ) < 2048 + 2048; omega⟩

/-- A buffer of the weights' shape is held whole exactly when it is held by its two windows. -/
theorem windows_iff {ℓ : Loc nD τ sig} {I J : Finset (Idx ℓ)} (hd : Disjoint I J) (hu : I ∪ J = Finset.univ) (f : Buf (Elt F) ℓ) :
    (ℓ ↦{fullShare} f : sProp 𝕄) ⊣⊢ iprop((ℓ ↦[I]{fullShare} f) ∗ (ℓ ↦[J]{fullShare} f)) := by
  have h := pointsTo_union (Ix := Unit) (Name := ℕ) (U := UU) (Lvl := ℕ) (q := fullShare) (f := f) hd
  rw [hu] at h
  exact h

/-- The two windows of weights in the argument, as sets of elements. -/
theorem aW_sets : (aW0.view.set : Finset _) = rect0.set ∧ (aW1.view.set : Finset _) = rect1.set :=
  ⟨View.set_slice_whole _ _, View.set_slice_whole _ _⟩
/-- The two windows of weights on chip, as sets of elements. -/
theorem bW_sets : (bW0.view.set : Finset _) = rect0.set ∧ (bW1.view.set : Finset _) = rect1.set :=
  ⟨View.set_slice_whole _ _, View.set_slice_whole _ _⟩

/-- The weights in HBM by windows. -/
theorem weights_hbm (c : Dev nD) (f : Buf (Elt F) ((c : Thread nD τ).loc main_arg1)) :
    ((c : Thread nD τ).loc main_arg1 ↦{fullShare} f : sProp 𝕄) ⊣⊢ iprop(at' c aW0 f ∗ at' c aW1 f) :=
  windows_iff (ℓ := (c : Thread nD τ).loc main_arg1) (by rw [aW_sets.1, aW_sets.2]; exact rect_disjoint)
    (by rw [aW_sets.1, aW_sets.2]; exact rect_union) f
/-- The weights on chip by windows. -/
theorem weights_vmem (c : Dev nD) (f : Buf (Elt F) ((c : Thread nD τ).loc cc0_scratch1)) :
    ((c : Thread nD τ).loc cc0_scratch1 ↦{fullShare} f : sProp 𝕄) ⊣⊢ iprop(at' c bW0 f ∗ at' c bW1 f) :=
  windows_iff (ℓ := (c : Thread nD τ).loc cc0_scratch1) (by rw [bW_sets.1, bW_sets.2]; exact rect_disjoint)
    (by rw [bW_sets.1, bW_sets.2]; exact rect_union) f

/-- A buffer seen whole is all of it. -/
theorem at_whole (c : Dev nD) (b : Ref sig .tc) (f : Buf (Elt F) ((c : Thread nD τ).loc b)) :
    (at' c (Memref.whole b) f : sProp 𝕄) = ((c : Thread nD τ).loc b ↦{fullShare} f) := by
  show (_ ↦[(View.whole b).set]{fullShare} f : sProp 𝕄) = _
  rw [View.set_whole]

/-! ## What a copy leaves -/

/-- A copy between whole buffers leaves the source's contents. -/
theorem copied_x (c : Dev nD) (fd : Buf (Elt F) (bX.view.loc (c : Thread nD τ))) :
    bX.view.write (Elt F) fd (aX.view.read (Elt F) (V m c main_arg0)) Finset.univ = V m c main_arg0 := by
  rw [View.read_whole]; exact View.write_whole_univ _ _ _
/-- The labels' copy leaves the argument's labels on chip. -/
theorem copied_l (c : Dev nD) (fd : Buf (Elt F) (bL.view.loc (c : Thread nD τ))) :
    bL.view.write (Elt F) fd (aL.view.read (Elt F) (V m c main_v1)) Finset.univ = V m c main_v1 := by
  rw [View.read_whole]; exact View.write_whole_univ _ _ _
/-- The rows sent arrive as they are. -/
theorem copied_s (c : Dev nD) (fd : Buf (Elt F) (bR.view.loc (c : Thread nD τ))) (fs : Buf (Elt F) (bS.view.loc (c : Thread nD τ))) :
    bR.view.write (Elt F) fd (bS.view.read (Elt F) fs) Finset.univ = fs := by
  rw [View.read_whole]; exact View.write_whole_univ _ _ _
/-- A window copied holds the source's contents under the window. -/
theorem copied_w0 (c : Dev nD) (fd : Buf (Elt F) (bW0.view.loc (c : Thread nD τ))) :
    (at' c bW0 (bW0.view.write (Elt F) fd (aW0.view.read (Elt F) (V m c main_arg1)) Finset.univ) : sProp 𝕄) = at' c bW0 (V m c main_arg1) :=
  pointsTo_congr fun i hi =>
    (congrFun (View.write_read_eq_piecewise (v := bW0.view) fd (V m c main_arg1) Finset.univ) i).trans (Finset.piecewise_eq_of_mem _ _ _ hi)
/-- The second window's copy leaves that window of the argument on chip. -/
theorem copied_w1 (c : Dev nD) (fd : Buf (Elt F) (bW1.view.loc (c : Thread nD τ))) :
    (at' c bW1 (bW1.view.write (Elt F) fd (aW1.view.read (Elt F) (V m c main_arg1)) Finset.univ) : sProp 𝕄) = at' c bW1 (V m c main_arg1) :=
  pointsTo_congr fun i hi =>
    (congrFun (View.write_read_eq_piecewise (v := bW1.view) fd (V m c main_arg1) Finset.univ) i).trans (Finset.piecewise_eq_of_mem _ _ _ hi)

/-! ## What the three stores leave -/

/-- The three rows written one after the other read as what was written. -/
theorem rows_stored (w0 w1 w2 : FVec F S1x256 .f32)
    (v : View sig .tc .vmem S3x256 .f32) (g : v.ty.Contents (Elt F)) :
    let h := (v.slice row2).write (Elt F) ((v.slice row1).write (Elt F) ((v.slice row0).write (Elt F) g w0 Finset.univ) w1 Finset.univ) w2 Finset.univ
    (v.slice row0).read (Elt F) h = w0 ∧ (v.slice row1).read (Elt F) h = w1 ∧ (v.slice row2).read (Elt F) h = w2 := by
  have d01 : Disjoint (v.slice row0).set ((v.slice row1).setOn Finset.univ) := by
    rw [View.setOn_univ, View.set_slice, View.set_slice]
    exact v.disjoint_setOn (LoadRect.disjoint_of_separated row0.toLoadRect row1.toLoadRect 0 (.inl (.inr (by decide))))
  have d02 : Disjoint (v.slice row0).set ((v.slice row2).setOn Finset.univ) := by
    rw [View.setOn_univ, View.set_slice, View.set_slice]
    exact v.disjoint_setOn (LoadRect.disjoint_of_separated row0.toLoadRect row2.toLoadRect 0 (.inl (.inr (by decide))))
  have d12 : Disjoint (v.slice row1).set ((v.slice row2).setOn Finset.univ) := by
    rw [View.setOn_univ, View.set_slice, View.set_slice]
    exact v.disjoint_setOn (LoadRect.disjoint_of_separated row1.toLoadRect row2.toLoadRect 0 (.inl (.inr (by decide))))
  refine ⟨?_, ?_, ?_⟩
  · rw [View.read_slice_write_slice_of_disjoint (v := v) row0 row2 _ _ _ d02, View.read_slice_write_slice_of_disjoint (v := v) row0 row1 _ _ _ d01]
    exact View.read_write_univ _ _
  · rw [View.read_slice_write_slice_of_disjoint (v := v) row1 row2 _ _ _ d12]
    exact View.read_write_univ _ _
  · exact View.read_write_univ _ _

/-! ## The payments, by semaphore -/

/-- What a cell's duty hands over, by the cell's number. -/
theorem payload_eq (c : Dev nD) (s : SemLoc sig) : (sched (F := F) m).payload (cell c s) 0 () = payOf m c (code s) := rfl

/-- The barrier unit hands over the peer's receive buffer, and that the peer's receive cell is at its start. -/
theorem pay_bar (c : Dev nD) : (payOf m c (code (.reg barS)) : sProp 𝕄) = iprop((∃ f, at' (peer c) bR f) ∗ reached ER (recvCell (peer c)) 0) := by
  rw [code_bar]; rfl
/-- The first window's landing hands over both of its ends. -/
theorem pay_w0 (c : Dev nD) : (payOf m c (code (.dma w0S)) : sProp 𝕄) = iprop(at' c bW0 (V m c main_arg1) ∗ at' c aW0 (V m c main_arg1)) := by
  rw [code_w0]; rfl
/-- The second window's landing hands over both of its ends. -/
theorem pay_w1 (c : Dev nD) : (payOf m c (code (.dma w1S)) : sProp 𝕄) = iprop(at' c bW1 (V m c main_arg1) ∗ at' c aW1 (V m c main_arg1)) := by
  rw [code_w1]; rfl
/-- The activations' landing hands over both of its ends. -/
theorem pay_x (c : Dev nD) : (payOf m c (code (.dma xS)) : sProp 𝕄) = iprop(at' c bX (V m c main_arg0) ∗ at' c aX (V m c main_arg0)) := by
  rw [code_x]; rfl
/-- The labels' landing hands over both of its ends. -/
theorem pay_l (c : Dev nD) : (payOf m c (code (.dma lS)) : sProp 𝕄) = iprop(at' c bL (V m c main_v1) ∗ at' c aL (V m c main_v1)) := by
  rw [code_l]; rfl
/-- The send unit hands back the send buffer. -/
theorem pay_send (c : Dev nD) : (payOf m c (code (.dma sendS)) : sProp 𝕄) = iprop(∃ f, at' c bS f) := by
  rw [code_send]; rfl
/-- The landing hands over the receive buffer with the peer's three rows. -/
theorem pay_recv (c : Dev nD) : (payOf m c (code (.dma recvS)) : sProp 𝕄) = iprop(∃ f, ⌜Rows m (peer c) f⌝ ∗ at' c bR f) := by
  rw [code_recv]; rfl

/-! ## Owing, whatever has been waited for -/

/-- The device owes `O`, with some record of its waits. -/
abbrev owing (c : Dev nD) (O : CellTallies nD τ sig Unit) : sProp 𝕄 := iprop(∃ W, owes (c : Thread nD τ) O W)

/-- The signal to the peer's barrier: it lends the own receive buffer, whose cell is open. -/
theorem step_signal {α : Type} (K : GSem nD τ sig → ℕ) (c n : Dev nD) (hn : n = peer c) (k : PUnit → Prog (TpuEff nD τ sig (Elt F) Λ₀ .tc) α) (Kt : α → sProp 𝕄) :
    iprop(cellInv ER (sched m) (K (barCell (peer c))) (barCell (peer c)) ∗ owing c (due c) ∗ dutyTok ER (barCell (peer c)) 0 ()
        ∗ (∃ f, at' c bR f) ∗ reached ER (recvCell c) 0 ∗ reached ER (barCell (peer c)) 0)
      ⊢ iprop((owing c (tallyAt (recvCell (peer c)) () NR)
            -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (n, .tc) barS (1#32 : BitVec 32).toInt) k) Kt) := by
  subst hn
  iintro ⟨#HI, ⟨%W, HO⟩, Ht, Hr, #Hv, #Hb⟩ Hk
  iapply (Rounds.wp_signal 𝒱₀ ER (sched m) (c : Thread nD τ) none (dst := (peer c : Thread nD τ)) (sem := barS) (r := 0) (d := ())
      (κ := K (barCell (peer c))) (duty_mem m (peer c) (.reg barS) (by decide)) (k' := 1) rfl () (tallyAt (recvCell (peer c)) () NR) rfl)
    $$ [HO Ht Hr]
  · isplitr; · iexact HI
    isplitl [HO]; · iexact HO
    isplitl [Ht]; · iexact Ht
    isplitl [Hr]
    · rw [payload_eq, pay_bar, peer_peer]
      isplitl [Hr]; · iexact Hr
      iexact Hv
    · iexact Hb
  iintro HO
  iapply Hk
  iexists W
  iexact HO

/-- A copy within the device pays its own cell's duty. -/
theorem step_copy {α : Type} {sp sp' : Space} {s : Shape} {e : EltTy} (K : GSem nD τ sig → ℕ) (c : Dev nD) (src : Memref sig .tc sp s e)
    (dst : Memref sig .tc sp' s e) (sem : DmaSem sig) (h1 : code (.dma sem) ≠ 1) (hN : dst.view.dmaCredit = amt (code (.dma sem)))
    {hsrc : src.view.WordExact} {hdst : dst.view.WordExact} {hsem : DmaTarget.Typed (nD := nD) (τ := τ) (p := .tc) sp (.dma sem) (.here dst)}
    (fs : Buf (Elt F) (src.view.loc (c : Thread nD τ))) (fd : Buf (Elt F) (dst.view.loc (c : Thread nD τ)))
    (hpay : iprop(at' c dst (dst.view.write (Elt F) fd (src.view.read (Elt F) fs) Finset.univ) ∗ at' c src fs) ⊢ payOf m c (code (.dma sem)))
    (k : PUnit → Prog (TpuEff nD τ sig (Elt F) Λ₀ .tc) α) (Kt : α → sProp 𝕄) :
    iprop(cellInv ER (sched m) (K (cell c (.dma sem))) (cell c (.dma sem)) ∗ at' c src fs ∗ at' c dst fd
        ∗ dutyTok ER (cell c (.dma sem)) 0 () ∗ reached ER (cell c (.dma sem)) 0)
      ⊢ iprop((cred (tallyAt (cell c (.dma sem)) () dst.view.dmaCredit)
            -∗ wp frame (wpE (defs₀ (F := F)) 𝒱₀ (c : Thread nD τ) none) Set.univ (k ⟨⟩) Kt)
          -∗ wp frame (wpE (defs₀ (F := F)) 𝒱₀ (c : Thread nD τ) none) Set.univ (.op (.enqueueDma src (.here dst) (.dma sem) hsrc hdst hsem) k) Kt) :=
  Rounds.wp_copy_pointsTo 𝒱₀ ER (sched m) (c : Thread nD τ) none (r := 0) (d := ()) (κ := K (cell c (.dma sem)))
    (duty_mem m c (.dma sem) h1) () dst.view.dmaCredit rfl ((amount_eq m c (.dma sem)).trans hN.symm) hpay

/-- A wait for a transfer on an own cell brings the landing's payment. -/
theorem step_wait {α : Type} {sp sp' : Space} {s s' : Shape} {e e' : EltTy} (K : GSem nD τ sig → ℕ) (c : Dev nD) (src : Memref sig .tc sp' s' e')
    (dst : Memref sig .tc sp s e) (sem : DmaSem sig) (h1 : code (.dma sem) ≠ 1) (hN : dst.view.dmaCredit = amt (code (.dma sem)))
    {hsrc : src.view.WordExact} {hdst : dst.view.WordExact} (O : CellTallies nD τ sig Unit)
    (hw : (levAts L lv : sProp 𝕄) ⊢ MayWait (c : Thread nD τ) (.dma sem) () O) (k : PUnit → Prog (TpuEff nD τ sig (Elt F) Λ₀ .tc) α) (Kt : α → sProp 𝕄) :
    iprop(cellInv ER (sched m) (K (cell c (.dma sem))) (cell c (.dma sem)) ∗ cred (tallyAt (cell c (.dma sem)) () dst.view.dmaCredit)
        ∗ owing c O ∗ levAts L lv ∗ atPos ER (cell c (.dma sem)) 0 ∅ 0)
      ⊢ iprop(((owing c O ∗ atPos ER (cell c (.dma sem)) (0 + 1) ∅ 0 ∗ payOf m c (code (.dma sem)))
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sem src dst hsrc hdst) k) Kt) := by
  iintro ⟨#HI, Hc, ⟨%W, HO⟩, #Hlev, Ha⟩ Hk
  iapply (Rounds.wp_wait_rest_token 𝒱₀ ER (sched m) (c : Thread nD τ) none (κ := K (cell c (.dma sem)))
      (wpE_waitDma2_eq 𝒱₀ (c : Thread nD τ) none Set.univ) (Set.mem_univ _) () (O := O) (W := W) (R := 0) (m := 0) (T := ∅)
      ((Nat.zero_add _).trans (hN.trans (expect_eq m c (.dma sem) h1).symm))) $$ [Hc HO Ha]
  · isplitr; · iexact HI
    isplitl [Hc]; · iexact Hc
    isplitl [HO]; · iexact HO
    isplitr; · iapply hw; iexact Hlev
    iexact Ha
  iintro ⟨HO, Ha, -, Hp⟩
  iapply Hk
  isplitl [HO]; · iexists _; iexact HO
  isplitl [Ha]; · iexact Ha
  iapply (Entails.of_eq (rest_eq m c (.dma sem) h1)); iexact Hp

/-- The wait on the own barrier brings the peer's receive buffer. -/
theorem step_barrier {α : Type} (K : GSem nD τ sig → ℕ) (c : Dev nD) (k : PUnit → Prog (TpuEff nD τ sig (Elt F) Λ₀ .tc) α) (Kt : α → sProp 𝕄) :
    iprop(cellInv ER (sched m) (K (barCell c)) (barCell c) ∗ cred (tallyAt (barCell c) () 1)
        ∗ owing c (tallyAt (recvCell (peer c)) () NR) ∗ levAts L lv ∗ atPos ER (barCell c) 0 ∅ 0)
      ⊢ iprop(((owing c (tallyAt (recvCell (peer c)) () NR) ∗ atPos ER (barCell c) (0 + 1) ∅ 0
              ∗ (∃ f, at' (peer c) bR f) ∗ reached ER (recvCell (peer c)) 0)
            -∗ wp frame (wpE (defs₀ (F := F)) 𝒱₀ (c : Thread nD τ) none) Set.univ (k ⟨⟩) Kt)
          -∗ wp frame (wpE (defs₀ (F := F)) 𝒱₀ (c : Thread nD τ) none) Set.univ (.op (.semWait barS (1#32 : BitVec 32).toInt) k) Kt) := by
  iintro ⟨#HI, Hc, ⟨%W, HO⟩, #Hlev, Ha⟩ Hk
  iapply (Rounds.wp_wait_rest_token 𝒱₀ ER (sched m) (c : Thread nD τ) none (κ := K (barCell c))
      (wpE_semWait_eq 𝒱₀ (c : Thread nD τ) none Set.univ) (Set.mem_univ _) () (O := tallyAt (recvCell (peer c)) () NR) (W := W)
      (R := 0) (m := 0) (T := ∅) (k' := 1) ((Nat.zero_add _).trans (expect_eq m c (.reg barS) (by decide)).symm)) $$ [Hc HO Ha]
  · isplitr; · iexact HI
    isplitl [Hc]; · iexact Hc
    isplitl [HO]; · iexact HO
    isplitr; · iapply (mayWait c (.reg barS) (by decide)); iexact Hlev
    iexact Ha
  iintro ⟨HO, Ha, -, Hp⟩
  iapply Hk
  isplitl [HO]; · iexists _; iexact HO
  isplitl [Ha]; · iexact Ha
  ihave Hq := (Entails.of_eq ((rest_eq m c (.reg barS) (by decide)).trans (pay_bar m c))) $$ Hp
  iexact Hq

/-- The transfer of the rows to the peer's receive buffer. -/
theorem step_send {α : Type} (K : GSem nD τ sig → ℕ) (c n : Dev nD) (hn : n = peer c)
    {hsc : (bR : Memref sig (Dev.tc n : Thread nD τ).2.kind .vmem S3x256 .f32).view.ref.isScScratch = false}
    {hsrc : (bS : Memref sig .tc .vmem S3x256 .f32).view.WordExact} {hdst : (bR : Memref sig .tc .vmem S3x256 .f32).view.WordExact}
    {hsem : DmaTarget.Typed .vmem (.dma recvS) (.remote (Dev.tc n : Thread nD τ) (bR : Memref sig .tc .vmem S3x256 .f32) (.dma sendS) hsc)}
    (fs : Buf (Elt F) (bS.view.loc (c : Thread nD τ))) (fd : Buf (Elt F) (bR.view.loc (peer c : Thread nD τ))) (hrows : Rows m c fs)
    (k : PUnit → Prog (TpuEff nD τ sig (Elt F) Λ₀ .tc) α) (Kt : α → sProp 𝕄) :
    iprop(cellInv ER (sched m) (K (cell c (.dma sendS))) (cell c (.dma sendS))
        ∗ cellInv ER (sched m) (K (recvCell (peer c))) (recvCell (peer c)) ∗ at' c bS fs ∗ at' (peer c) bR fd
        ∗ owing c (tallyAt (recvCell (peer c)) () NR) ∗ dutyTok ER (cell c (.dma sendS)) 0 () ∗ reached ER (cell c (.dma sendS)) 0
        ∗ dutyTok ER (recvCell (peer c)) 0 () ∗ reached ER (recvCell (peer c)) 0)
      ⊢ iprop(((cred (tallyAt (cell c (.dma sendS)) () NR) ∗ owing c 0)
            -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma bS (.remote (Dev.tc n : Thread nD τ) bR (.dma sendS) hsc) (.dma recvS) hsrc hdst hsem) k) Kt) := by
  subst hn
  iintro ⟨#HI, #HI', Hs, Hd, ⟨%W, HO⟩, Ht, #Hr, Ht', #Hr'⟩ Hk
  iapply (Rounds.wp_send_pointsTo 𝒱₀ ER (sched m) (c : Thread nD τ) none (c' := (peer c : Thread nD τ)) (src := bS) (dst := bR)
      (sS := .dma sendS) (sem := .dma recvS) (q := fullShare) (fs := fs) (fd := fd) (κ₁ := K (cell c (.dma sendS))) (κ₂ := K (recvCell (peer c)))
      (r₁ := 0) (r₂ := 0) (d₁ := ()) (d₂ := ()) (duty_mem m c (.dma sendS) (by decide)) (duty_mem m (peer c) (.dma recvS) (by decide))
      () () NR rfl (amount_eq m c (.dma sendS)) (amount_eq m (peer c) (.dma recvS)) 0 (by rw [zero_add]) (W := W)
      (by
        rw [payload_eq, pay_send]
        iintro H; iexists fs; iexact H)
      (by
        rw [payload_eq, pay_recv, peer_peer, View.read_whole]
        iintro H; iexists fs
        isplitr; · ipureintro; exact hrows
        rw [View.write_whole_univ]
        iexact H)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

end Cert.KernelIdeal.Exchange

end
-- ==== Proof.KernelIdeal.Body.lean ====
/-
  One run of the kernel's body on one device: from the open cells, the operands and the buffers to the result in the staging
  buffer, every cell closed again.
-/
module

public import proofs.«01_k».proof.Proof.KernelIdeal.Steps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## What a load reads -/

/-- A load of a whole buffer, of a window or of a row, at contents known. -/
theorem load_row0 (c : Dev nD) (f : Buf (Elt F) (bR.view.loc (c : Thread nD τ))) (h : Rows m (peer c) f) :
    bR.view.readAt (Elt F) row0.toLoadRect f = out0 m (peer c) := h.1
/-- Reading the second received row gives the peer's sum. -/
theorem load_row1 (c : Dev nD) (f : Buf (Elt F) (bR.view.loc (c : Thread nD τ))) (h : Rows m (peer c) f) :
    bR.view.readAt (Elt F) row1.toLoadRect f = out1 m (peer c) := h.2.1
/-- Reading the third received row gives the peer's label logit. -/
theorem load_row2 (c : Dev nD) (f : Buf (Elt F) (bR.view.loc (c : Thread nD τ))) (h : Rows m (peer c) f) :
    bR.view.readAt (Elt F) row2.toLoadRect f = out2 m (peer c) := h.2.2

/-- The rows buffer after the three stores. -/
def sent (c : Dev nD) (f : Buf (Elt F) (bS.view.loc (c : Thread nD τ))) : Buf (Elt F) (bS.view.loc (c : Thread nD τ)) :=
  (bS.view.slice row2).write (Elt F)
    ((bS.view.slice row1).write (Elt F) ((bS.view.slice row0).write (Elt F) f (out0 m c) Finset.univ) (out1 m c) Finset.univ)
    (out2 m c) Finset.univ
/-- After the three stores the send buffer holds the device's three rows. -/
theorem sent_rows (c : Dev nD) (f : Buf (Elt F) (bS.view.loc (c : Thread nD τ))) : Rows m c (sent m c f) :=
  rows_stored (out0 m c) (out1 m c) (out2 m c) bS.view f

/-- The result's one offset is zero. -/
theorem off_zero : (![0] : Fin S256.rank → ℕ) = fun _ => 0 := by funext a; fin_cases a; rfl
/-- The store of the result leaves the result in the staging buffer. -/
theorem staged (f w : (cc0_stg0_0 : Ref sig .tc).ty.Contents (Elt F)) :
    (bO.access rectO).write (Elt F) f w Finset.univ = w :=
  Memref.write_access_unit_zero_univ (Elt F) cc0_stg0_0 off_zero inb_S256_S256_0 f w

/-! ## The run -/

/-- What the body starts from. -/
def bodyPre (K : GSem nD τ sig → ℕ) (c : Dev nD) : sProp 𝕄 :=
  iprop(opened m K c ∗ cred (tallyAt (barCell c) () 1) ∗ cred (tallyAt (recvCell c) () NR) ∗ levAts L lv
    ∗ (at' c aX (V m c main_arg0) ∗ (at' c aW0 (V m c main_arg1) ∗ at' c aW1 (V m c main_arg1)) ∗ at' c aL (V m c main_v1))
    ∗ ((∃ f, at' c bX f) ∗ (∃ f, at' c bW0 f ∗ at' c bW1 f) ∗ (∃ f, at' c bL f) ∗ (∃ f, at' c bS f) ∗ (∃ f, at' c bR f))
    ∗ (∃ f, at' c bO f) ∗ owing c (due c))

/-- What it leaves: every counter at zero, the operands and the buffers back, the result staged, nothing owed. -/
def bodyPost (c : Dev nD) : sProp 𝕄 :=
  iprop(semVal (barCell c) 0
    ∗ (semVal (cell c (.dma w0S)) 0 ∗ semVal (cell c (.dma w1S)) 0 ∗ semVal (cell c (.dma xS)) 0 ∗ semVal (cell c (.dma lS)) 0
      ∗ semVal (cell c (.dma sendS)) 0 ∗ semVal (recvCell c) 0)
    ∗ (at' c aX (V m c main_arg0) ∗ (at' c aW0 (V m c main_arg1) ∗ at' c aW1 (V m c main_arg1)) ∗ at' c aL (V m c main_v1))
    ∗ ((∃ f, at' c bX f) ∗ (∃ f, at' c bW0 f ∗ at' c bW1 f) ∗ (∃ f, at' c bL f) ∗ (∃ f, at' c bS f) ∗ (∃ f, at' c bR f))
    ∗ at' c bO (result m c) ∗ owing c 0)

set_option maxHeartbeats 3200000 in
set_option maxRecDepth 65536 in
/-- The body runs from `bodyPre` to `bodyPost`. -/
theorem bodyRun (K : GSem nD τ sig → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ (bodyAt0 (F := F) t0_0) Kt := by
  show _ ⊢ wp frame (wpE (defs₀ (F := F)) 𝒱₀ (c : Thread nD τ) none) Set.univ
    (cc0_body (F := F) aX (Memref.isWhole_whole _) aW (Memref.isWhole_whole _) aL (Memref.isWhole_whole _) bO (Memref.isWhole_whole _)
      bX (Memref.isWhole_whole _) bW (Memref.isWhole_whole _) bL (Memref.isWhole_whole _) bS (Memref.isWhole_whole _) bR (Memref.isWhole_whole _)
      cc0_scratch5 cc0_scratch6 cc0_scratch7 cc0_scratch8 cc0_scratch9) Kt
  rw [cc0_body_eq_skeleton]
  unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold bodyPre opened invs paid
  iintro ⟨⟨⟨⟨#Ib, #I0, #I1, #Ix, #Il, #Is, #Ir, #Ibp, #Irp⟩, Ab, #Rbp, ⟨⟨A0, #R0⟩, ⟨A1, #R1⟩, ⟨Ax, #Rx⟩, ⟨Al, #Rl⟩, ⟨As, #Rs⟩, ⟨Ar, #Rr⟩⟩,
    Tb, T0, T1, Tx, Tl, Ts, Tr⟩, Cb, Cr, #Hlev, ⟨HaX, ⟨HaW0, HaW1⟩, HaL⟩, ⟨⟨%fx, HbX⟩, ⟨%fw, HbW0, HbW1⟩, ⟨%fl, HbL⟩, ⟨%fs, HbS⟩, HbR⟩,
    ⟨%fo, HbO⟩, HO⟩, Hk⟩
  -- the signal
  iapply (step_signal m K c _ (dev1_eq c) _ Kt) $$ [HO Tb HbR]
  · isplitr; · iexact Ibp
    isplitl [HO]; · iexact HO
    isplitl [Tb]; · iexact Tb
    isplitl [HbR]; · iexact HbR
    isplitr; · iexact Rr
    iexact Rbp
  iintro HO
  -- the four local copies
  iapply (step_copy m K c aX bX xS (by decide) rfl (V m c main_arg0) fx (by rw [copied_x, pay_x]) _ Kt) $$ [HaX HbX Tx]
  · isplitr; · iexact Ix
    isplitl [HaX]; · iexact HaX
    isplitl [HbX]; · iexact HbX
    isplitl [Tx]; · iexact Tx
    iexact Rx
  iintro Cx
  iapply (step_copy m K c aL bL lS (by decide) rfl (V m c main_v1) fl (by rw [copied_l, pay_l]) _ Kt) $$ [HaL HbL Tl]
  · isplitr; · iexact Il
    isplitl [HaL]; · iexact HaL
    isplitl [HbL]; · iexact HbL
    isplitl [Tl]; · iexact Tl
    iexact Rl
  iintro Cl
  iapply (step_copy m K c aW0 bW0 w0S (by decide) rfl (V m c main_arg1) fw (by rw [copied_w0, pay_w0]) _ Kt) $$ [HaW0 HbW0 T0]
  · isplitr; · iexact I0
    isplitl [HaW0]; · iexact HaW0
    isplitl [HbW0]; · iexact HbW0
    isplitl [T0]; · iexact T0
    iexact R0
  iintro C0
  iapply (step_copy m K c aW1 bW1 w1S (by decide) rfl (V m c main_arg1) fw (by rw [copied_w1, pay_w1]) _ Kt) $$ [HaW1 HbW1 T1]
  · isplitr; · iexact I1
    isplitl [HaW1]; · iexact HaW1
    isplitl [HbW1]; · iexact HbW1
    isplitl [T1]; · iexact T1
    iexact R1
  iintro C1
  -- the rows and the labels arrive
  iapply (step_wait m K c aX bX xS (by decide) rfl _ (mayWait c (.dma xS) (by decide)) _ Kt) $$ [Cx HO Ax]
  · isplitr; · iexact Ix
    isplitl [Cx]; · iexact Cx
    isplitl [HO]; · iexact HO
    isplitr; · iexact Hlev
    iexact Ax
  rw [pay_x]
  iintro ⟨HO, Ax, HbX, HaX⟩
  iapply (step_wait m K c aL bL lS (by decide) rfl _ (mayWait c (.dma lS) (by decide)) _ Kt) $$ [Cl HO Al]
  · isplitr; · iexact Il
    isplitl [Cl]; · iexact Cl
    isplitl [HO]; · iexact HO
    isplitr; · iexact Hlev
    iexact Al
  rw [pay_l]
  iintro ⟨HO, Al, HbL, HaL⟩
  iapply (wp_load 𝒱₀ (c : Thread nD τ) none Set.univ (m := bX) (r := rectX.toLoadRect) (View.setOn_subset_set _ _)) $$ HbX
  iintro HbX
  iapply (wp_load 𝒱₀ (c : Thread nD τ) none Set.univ (m := bL) (r := rectL.toLoadRect) (View.setOn_subset_set _ _)) $$ HbL
  iintro HbL
  -- the two windows of the weights arrive
  iapply (step_wait m K c aW0 bW0 w0S (by decide) rfl _ (mayWait c (.dma w0S) (by decide)) _ Kt) $$ [C0 HO A0]
  · isplitr; · iexact I0
    isplitl [C0]; · iexact C0
    isplitl [HO]; · iexact HO
    isplitr; · iexact Hlev
    iexact A0
  rw [pay_w0]
  iintro ⟨HO, A0, HbW0, HaW0⟩
  iapply (wp_load_rect 𝒱₀ (c : Thread nD τ) none Set.univ (m := bW) (r := rect0) (subset_of_eq rfl)) $$ HbW0
  iintro HbW0
  iapply (step_wait m K c aW1 bW1 w1S (by decide) rfl _ (mayWait c (.dma w1S) (by decide)) _ Kt) $$ [C1 HO A1]
  · isplitr; · iexact I1
    isplitl [C1]; · iexact C1
    isplitl [HO]; · iexact HO
    isplitr; · iexact Hlev
    iexact A1
  rw [pay_w1]
  iintro ⟨HO, A1, HbW1, HaW1⟩
  iapply (wp_load_rect 𝒱₀ (c : Thread nD τ) none Set.univ (m := bW) (r := rect1) (subset_of_eq rfl)) $$ HbW1
  iintro HbW1
  -- the three rows to send
  iapply (wp_load 𝒱₀ (c : Thread nD τ) none Set.univ (m := bS) (r := row0.toLoadRect) (View.setOn_subset_set _ _)) $$ HbS
  iintro HbS
  iapply (wp_store 𝒱₀ (c : Thread nD τ) none Set.univ (m := bS) (r := row0) (View.setOn_slice_subset_set _ _ _)) $$ HbS
  iintro HbS
  iapply (wp_load 𝒱₀ (c : Thread nD τ) none Set.univ (m := bS) (r := row1.toLoadRect) (View.setOn_subset_set _ _)) $$ HbS
  iintro HbS
  iapply (wp_store 𝒱₀ (c : Thread nD τ) none Set.univ (m := bS) (r := row1) (View.setOn_slice_subset_set _ _ _)) $$ HbS
  iintro HbS
  iapply (wp_load 𝒱₀ (c : Thread nD τ) none Set.univ (m := bS) (r := row2.toLoadRect) (View.setOn_subset_set _ _)) $$ HbS
  iintro HbS
  iapply (wp_store 𝒱₀ (c : Thread nD τ) none Set.univ (m := bS) (r := row2) (View.setOn_slice_subset_set _ _ _)) $$ HbS
  iintro HbS
  -- the peer's receive buffer
  iapply (step_barrier m K c _ Kt) $$ [Cb HO Ab]
  · isplitr; · iexact Ib
    isplitl [Cb]; · iexact Cb
    isplitl [HO]; · iexact HO
    isplitr; · iexact Hlev
    iexact Ab
  iintro ⟨HO, Ab, ⟨%fp, HbP⟩, #Rrp⟩
  -- the transfer
  iapply (step_send m K c _ (dev2_eq c) (sent m c fs) fp (sent_rows m c fs) _ Kt) $$ [HbS HbP HO Ts Tr]
  · isplitr; · iexact Is
    isplitr; · iexact Irp
    isplitl [HbS]; · iexact HbS
    isplitl [HbP]; · iexact HbP
    isplitl [HO]; · iexact HO
    isplitl [Ts]; · iexact Ts
    isplitr; · iexact Rs
    isplitl [Tr]; · iexact Tr
    iexact Rrp
  iintro ⟨Cs, HO⟩
  -- the peer's rows arrive
  iapply (step_wait m K c bS bR recvS (by decide) rfl 0 (by rw [MayWait_zero]; iintro -; iempintro) _ Kt) $$ [Cr HO Ar]
  · isplitr; · iexact Ir
    isplitl [Cr]; · iexact Cr
    isplitl [HO]; · iexact HO
    isplitr; · iexact Hlev
    iexact Ar
  rw [pay_recv]
  iintro ⟨HO, Ar, ⟨%fr, %hr, HbR⟩⟩
  iapply (wp_load 𝒱₀ (c : Thread nD τ) none Set.univ (m := bR) (r := row0.toLoadRect) (View.setOn_subset_set _ _)) $$ HbR
  iintro HbR
  iapply (wp_load 𝒱₀ (c : Thread nD τ) none Set.univ (m := bR) (r := row1.toLoadRect) (View.setOn_subset_set _ _)) $$ HbR
  iintro HbR
  iapply (wp_load 𝒱₀ (c : Thread nD τ) none Set.univ (m := bR) (r := row2.toLoadRect) (View.setOn_subset_set _ _)) $$ HbR
  iintro HbR
  rw [load_row0 m c fr hr, load_row1 m c fr hr, load_row2 m c fr hr]
  -- the result is staged
  iapply (wp_load 𝒱₀ (c : Thread nD τ) none Set.univ (m := bO) (r := rectO.toLoadRect) (View.setOn_subset_set _ _)) $$ HbO
  iintro HbO
  iapply (wp_store 𝒱₀ (c : Thread nD τ) none Set.univ (m := bO) (r := rectO) (View.setOn_slice_subset_set _ _ _)) $$ HbO
  iintro HbO
  -- the sent rows come back
  iapply (step_wait m K c bR bS sendS (by decide) rfl 0 (by rw [MayWait_zero]; iintro -; iempintro) _ Kt) $$ [Cs HO As]
  · isplitr; · iexact Is
    isplitl [Cs]; · iexact Cs
    isplitl [HO]; · iexact HO
    isplitr; · iexact Hlev
    iexact As
  rw [pay_send]
  iintro ⟨HO, As, HbS⟩
  -- every cell closes
  rw [wp_ret]
  imod (close m (K (barCell c)) (barCell c)) $$ [Ab] with Zb
  · isplitr; · iexact Ib
    iexact Ab
  imod (close m (K (cell c (.dma w0S))) (cell c (.dma w0S))) $$ [A0] with Z0
  · isplitr; · iexact I0
    iexact A0
  imod (close m (K (cell c (.dma w1S))) (cell c (.dma w1S))) $$ [A1] with Z1
  · isplitr; · iexact I1
    iexact A1
  imod (close m (K (cell c (.dma xS))) (cell c (.dma xS))) $$ [Ax] with Zx
  · isplitr; · iexact Ix
    iexact Ax
  imod (close m (K (cell c (.dma lS))) (cell c (.dma lS))) $$ [Al] with Zl
  · isplitr; · iexact Il
    iexact Al
  imod (close m (K (cell c (.dma sendS))) (cell c (.dma sendS))) $$ [As] with Zs
  · isplitr; · iexact Is
    iexact As
  imod (close m (K (recvCell c)) (recvCell c)) $$ [Ar] with Zr
  · isplitr; · iexact Ir
    iexact Ar
  imodintro
  iapply Hk
  unfold bodyPost
  isplitl [Zb]; · iexact Zb
  isplitl [Z0 Z1 Zx Zl Zs Zr]
  · isplitl [Z0]; · iexact Z0
    isplitl [Z1]; · iexact Z1
    isplitl [Zx]; · iexact Zx
    isplitl [Zl]; · iexact Zl
    isplitl [Zs]; · iexact Zs
    iexact Zr
  isplitl [HaX HaW0 HaW1 HaL]
  · isplitl [HaX]; · iexact HaX
    isplitl [HaW0 HaW1]
    · isplitl [HaW0]; · iexact HaW0
      iexact HaW1
    iexact HaL
  isplitl [HbX HbW0 HbW1 HbL HbS HbR]
  · isplitl [HbX]; · iexists _; iexact HbX
    isplitl [HbW0 HbW1]
    · iexists _
      isplitl [HbW0]; · iexact HbW0
      iexact HbW1
    isplitl [HbL]; · iexists _; iexact HbL
    isplitl [HbS]; · iexact HbS
    iexists fr; iexact HbR
  isplitl [HbO]
  · rw [staged]
    iexact HbO
  iexact HO

end Cert.KernelIdeal.Exchange

end
-- ==== Proof.KernelIdeal.Region.lean ====
/-
  The kernel as one region of @main: what it holds before and after its one grid point, the body's obligation there, and the
  opening of the scoped cells at its entry.
-/
module

public import proofs.«01_k».proof.Proof.KernelIdeal.Body
public import Idealize.ShloMosaic.Lib.Pipeline.ValueKit.Geometry

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The held buffers -/

/-- @main's buffers: those no kernel scopes. -/
def bufs : Finset (DevRef τ sig) := (StableHlo.tcRefs τ sig).filter fun b => ¬ b.isScoped
/-- The array the region writes back, and the others. -/
abbrev outs : Finset (DevRef τ sig) := {Proc.devRef .tc main_v2}
/-- The buffers other than the call's result. -/
abbrev rest : Finset (DevRef τ sig) :=
  {Proc.devRef .tc main_arg0, Proc.devRef .tc main_arg1, Proc.devRef .tc main_arg2, Proc.devRef .tc main_v1}

/-- The contents at launch, before the region, and after it. -/
def V₀ (c : Dev nD) : Valuation τ sig (Elt F) := fun b => m (c, b)
/-- The buffers' contents when the call starts. -/
def V₁ (c : Dev nD) : Valuation τ sig (Elt F) := StableHlo.after hostOps0 (V₀ m c)
/-- The buffers' contents when the call has ended. -/
def V₂ (c : Dev nD) : Valuation τ sig (Elt F) := Function.update (V₁ m c) (Proc.devRef .tc main_v2) (result m c)

/-- The contents at the call's start, read at a buffer. -/
theorem V₁_eq (c : Dev nD) (b : Ref sig .tc) : V₁ m c (Proc.devRef .tc b) = V m c b := rfl
/-- The result buffer ends with the result. -/
theorem V₂_out (c : Dev nD) : V₂ m c (Proc.devRef .tc main_v2) = result m c := by unfold V₂; rw [Function.update_self]
/-- Every other buffer keeps what it held. -/
theorem V₂_rest (c : Dev nD) (b : DevRef τ sig) (h : b ≠ Proc.devRef .tc main_v2) : V₂ m c b = V₁ m c b := by
  unfold V₂; rw [Function.update_of_ne h]

/-- The buffers that outlive the call are those held. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The call's array is the result buffer. -/
theorem arrRefs_eq : Pipeline.arrRefs (τ := τ) (pcfgs (F := F) 0).spec = outs := by
  show Pipeline.arrRefs (τ := τ) spec0 = outs
  decide
/-- The result buffer is one of the buffers. -/
theorem outs_sub : outs ⊆ bufs := by decide
/-- The buffers without the result are the rest. -/
theorem bufs_sdiff : bufs \ outs = rest := by decide

/-- @main's buffers are the result array and the rest. -/
theorem bufs_split (c : Dev nD) (W : Valuation τ sig (Elt F)) : (StableHlo.held (c : Thread nD τ) bufs W : sProp 𝕄)
    = iprop(StableHlo.held (c : Thread nD τ) outs W ∗ StableHlo.held (c : Thread nD τ) rest W) := by
  rw [StableHlo.held_sub_split (c : Thread nD τ) outs_sub W, bufs_sdiff]

/-- The rest, buffer by buffer. -/
theorem rest_held (c : Dev nD) (W : Valuation τ sig (Elt F)) : (StableHlo.held (c : Thread nD τ) rest W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v1 ↦{fullShare} W main_v1)) := by
  unfold StableHlo.held
  rw [bigSep_eq_bigSepL_of_eq [Proc.devRef .tc main_arg0, Proc.devRef .tc main_arg1, Proc.devRef .tc main_arg2, Proc.devRef .tc main_v1]
    (by decide) (by decide)]
  rfl
/-- The result buffer, by itself. -/
theorem outs_held (c : Dev nD) (W : Valuation τ sig (Elt F)) : (StableHlo.held (c : Thread nD τ) outs W : sProp 𝕄)
    = ((c : Thread nD τ).loc main_v2 ↦{fullShare} W main_v2) := by
  unfold StableHlo.held
  rw [BI.bigSep_singleton]

/-- The operands as the body reads them, beside the labels as passed, which it does not read. -/
def operands (c : Dev nD) : sProp 𝕄 :=
  iprop(at' c aX (V m c main_arg0) ∗ (at' c aW0 (V m c main_arg1) ∗ at' c aW1 (V m c main_arg1)) ∗ at' c aL (V m c main_v1))
/-- The argument that the call does not read. -/
abbrev passed (c : Dev nD) : sProp 𝕄 := iprop((c : Thread nD τ).loc main_arg2 ↦{fullShare} V m c main_arg2)

/-- The rest are the call's operands and the argument it does not read. -/
theorem rest_intro (c : Dev nD) : (StableHlo.held (c : Thread nD τ) rest (V₁ m c) : sProp 𝕄) ⊢ iprop(operands m c ∗ passed m c) := by
  rw [rest_held, V₁_eq m c main_arg0, V₁_eq m c main_arg1, V₁_eq m c main_arg2, V₁_eq m c main_v1]
  unfold operands
  rw [at_whole, at_whole]
  iintro ⟨HX, HW, H2, HL⟩
  ihave HW' := (weights_hbm c (V m c main_arg1)).1 $$ HW
  isplitr [H2]
  · isplitl [HX]; · iexact HX
    isplitl [HW']; · iexact HW'
    iexact HL
  iexact H2
/-- The operands and the unread argument, back again as the rest. -/
theorem rest_elim (c : Dev nD) : iprop(operands m c ∗ passed m c) ⊢ (StableHlo.held (c : Thread nD τ) rest (V₂ m c) : sProp 𝕄) := by
  rw [rest_held, V₂_rest m c (Proc.devRef .tc main_arg0) (by decide), V₂_rest m c (Proc.devRef .tc main_arg1) (by decide),
    V₂_rest m c (Proc.devRef .tc main_arg2) (by decide), V₂_rest m c (Proc.devRef .tc main_v1) (by decide),
    V₁_eq m c main_arg0, V₁_eq m c main_arg1, V₁_eq m c main_arg2, V₁_eq m c main_v1]
  unfold operands
  rw [at_whole, at_whole]
  iintro ⟨⟨HX, HW, HL⟩, H2⟩
  ihave HW' := (weights_hbm c (V m c main_arg1)).2 $$ HW
  isplitl [HX]; · iexact HX
  isplitl [HW']; · iexact HW'
  isplitl [H2]; · iexact H2
  iexact HL

/-- The kernel's scratch buffers, at contents not chosen. -/
def scratches (c : Dev nD) : sProp 𝕄 :=
  iprop((∃ f, at' c bX f) ∗ (∃ f, at' c bW0 f ∗ at' c bW1 f) ∗ (∃ f, at' c bL f) ∗ (∃ f, at' c bS f) ∗ (∃ f, at' c bR f))

/-- A scratch buffer held whole, with whatever it holds. -/
theorem scratch_whole (c : Dev nD) (b : Ref sig .tc) :
    (iprop(∃ f, at' c (Memref.whole b) f) : sProp 𝕄) = iprop(∃ f : Buf (Elt F) ((c : Thread nD τ).loc b), (c : Thread nD τ).loc b ↦{fullShare} f) := by
  have h : (fun f : Buf (Elt F) ((c : Thread nD τ).loc b) => (at' c (Memref.whole b) f : sProp 𝕄))
      = fun f => ((c : Thread nD τ).loc b ↦{fullShare} f) := funext fun f => at_whole c b f
  exact congrArg (fun Φ : Buf (Elt F) ((c : Thread nD τ).loc b) → sProp 𝕄 => iprop(∃ f, Φ f)) h

/-- The call's scratch buffers, one by one. -/
theorem scratches_intro (c : Dev nD) : (Pipeline.scopedRest spec0 c : sProp 𝕄) ⊢ scratches c := by
  rw [scopedRest0_eq]
  unfold scratches
  rw [scratch_whole, scratch_whole, scratch_whole, scratch_whole]
  iintro ⟨HX, ⟨%f, HW⟩, HL, HS, HR⟩
  ihave HW' := (weights_vmem c f).1 $$ HW
  isplitl [HX]; · iexact HX
  isplitl [HW']; · iexists f; iexact HW'
  isplitl [HL]; · iexact HL
  isplitl [HS] <;> iassumption
/-- The scratch buffers, back again together. -/
theorem scratches_elim (c : Dev nD) : (scratches c : sProp 𝕄) ⊢ Pipeline.scopedRest spec0 c := by
  rw [scopedRest0_eq]
  unfold scratches
  rw [scratch_whole, scratch_whole, scratch_whole, scratch_whole]
  iintro ⟨HX, ⟨%f, HW⟩, HL, HS, HR⟩
  ihave HW' := (weights_vmem c f).2 $$ HW
  isplitl [HX]; · iexact HX
  isplitl [HW']; · iexists f; iexact HW'
  isplitl [HL]; · iexact HL
  isplitl [HS] <;> iassumption

/-! ## The region's data -/

/-- The six own counters at zero. -/
def counters (c : Dev nD) : sProp 𝕄 :=
  iprop(semVal (cell c (.dma w0S)) 0 ∗ semVal (cell c (.dma w1S)) 0 ∗ semVal (cell c (.dma xS)) 0 ∗ semVal (cell c (.dma lS)) 0
    ∗ semVal (cell c (.dma sendS)) 0 ∗ semVal (recvCell c) 0)

/-- A conjunction over the six own semaphores, written out. -/
theorem bigSep_osem (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The own semaphores at zero, written out. -/
theorem own_eq (c : Dev nD) : (Pipeline.ownSems0 osem c : sProp 𝕄) = counters c :=
  bigSep_osem fun k => (semVal ((c : Thread nD τ), osem k) 0 : sProp 𝕄)

/-- The protocol's part of the invariant before the point. -/
def ready (c : Dev nD) : sProp 𝕄 :=
  iprop((∃ K, opened m K c) ∗ cred (tallyAt (barCell c) () 1) ∗ cred (tallyAt (recvCell c) () NR) ∗ levAts L lv)

/-- The invariant before the one point, and after it. -/
def Φ₀ (c : Dev nD) : sProp 𝕄 := iprop(ready m c ∗ (operands m c ∗ passed m c) ∗ scratches c ∗ ∃ r, prngReg c r)
/-- What a device holds when the body has run. -/
def Φ₁ (c : Dev nD) : sProp 𝕄 :=
  iprop(semVal (barCell c) 0 ∗ counters c ∗ (operands m c ∗ passed m c) ∗ scratches c ∗ ∃ r, prngReg c r)

/-- The region's proof data: the result staged at its one point, the two debts paid there. -/
def dat (c : Dev nD) : Dat τ (Elt F) Unit ℕ UU ℕ cfg0 c where
  A w := V m c (Pipeline.arrRef spec0 w)
  after w _ := match w with
    | ⟨0, _⟩ => result m c
  Φ t := match t with
    | ⟨0, _⟩ => Φ₀ m c
    | ⟨_ + 1, _⟩ => Φ₁ m c
  q _ := fullShare
  owed t := match t with
    | ⟨0, _⟩ => due c
    | ⟨_ + 1, _⟩ => 0

/-- The call meets the conditions asked of a call. -/
abbrev adm : (p : Fin 1) → (pcfgs (F := F) p).Adm := fun p => (cfgs p).toPCfg_adm
/-- The one call's data. -/
def pdats : (p : Fin 1) → (c : Dev nD) → Dat τ (Elt F) Unit ℕ UU ℕ (Pipeline.pin (pcfgs (F := F)) adm p) c
  | ⟨0, _⟩ => dat m

/-- Owing a given amount is owing what the call's data say. -/
theorem owesAt_intro (c : Dev nD) (t : Fin (cfg0.N + 1)) (O : CellTallies nD τ sig Unit) (h : (dat (F := F) m c).owed t = O) :
    (owing c O : sProp 𝕄) ⊢ (dat m c).owesAt () t := by
  unfold Dat.owesAt Pipeline.owesWithin Dat.bound owing
  rw [h, show (dat m c).recorded t = Set.univ from rfl]
  iintro ⟨%W, HO⟩
  iexists W
  isplitr; · ipureintro; exact fun _ _ => Or.inl trivial
  iexact HO
/-- Owing what the call's data say is owing the given amount. -/
theorem owesAt_elim (c : Dev nD) (t : Fin (cfg0.N + 1)) (O : CellTallies nD τ sig Unit) (h : (dat (F := F) m c).owed t = O) :
    ((dat m c).owesAt () t : sProp 𝕄) ⊢ owing c O := by
  unfold Dat.owesAt Pipeline.owesWithin owing
  rw [h]
  iintro ⟨%W, -, HO⟩
  iexists W; iexact HO

/-- A whole buffer owned is that buffer held. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at contents known. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0 ↦{fullShare} f))

/-- What the obligation hands the body, and what it wants back, in the words of `bodyRun`. -/
theorem body_step (c : Dev nD) (Kt : PUnit → sProp 𝕄) :
    iprop(Φ₀ m c ∗ (dat m c).owesAt () t0_0.castSucc ∗ (∃ d, stg c ((dat m c).before (0 : Fin 1) t0_0 d))
      ∗ ((Φ₁ m c ∗ (dat m c).owesAt () t0_0.succ ∗ stg c (result m c)) -∗ Kt ⟨⟩))
      ⊢ wp frame (wpE (defs₀ (F := F)) 𝒱₀ (c : Thread nD τ) none) Set.univ (bodyAt0 (F := F) t0_0) Kt := by
  unfold Φ₀ Φ₁ ready
  iintro ⟨⟨⟨⟨%K, HK⟩, Hb, Hr, Hlev⟩, ⟨Hops, H2⟩, Hscr, Hp⟩, HO, ⟨%d, %f, -, Hf⟩, Hk⟩
  ihave HO' := (owesAt_elim m c t0_0.castSucc (due c) rfl) $$ HO
  iapply (bodyRun m K c Kt)
  isplitl [HK Hb Hr Hlev Hops Hscr HO' Hf]
  · unfold bodyPre operands scratches
    isplitl [HK]; · iexact HK
    isplitl [Hb]; · iexact Hb
    isplitl [Hr]; · iexact Hr
    isplitl [Hlev]; · iexact Hlev
    isplitl [Hops]; · iexact Hops
    isplitl [Hscr]; · iexact Hscr
    isplitl [Hf]
    · iexists f; rw [at_whole c cc0_stg0_0]; iexact Hf
    iexact HO'
  unfold bodyPost
  rw [at_whole c cc0_stg0_0]
  iintro ⟨Hbar, Hctr, Hops, Hscr, Hf, HO⟩
  iapply Hk
  isplitl [Hbar Hctr Hops Hscr Hp H2]
  · unfold counters operands scratches
    isplitl [Hbar]; · iexact Hbar
    isplitl [Hctr]; · iexact Hctr
    isplitl [Hops H2]
    · isplitl [Hops]; · iexact Hops
      iexact H2
    isplitl [Hscr]; · iexact Hscr
    iexact Hp
  isplitl [HO]
  · iapply (owesAt_intro m c t0_0.succ 0 rfl); iexact HO
  iexists (result m c)
  isplitr; · ipureintro; rfl
  iexact Hf

/-- The body's obligation at the one point. -/
theorem body_obligation (c : Dev nD) : BodyObligation (dat (F := F) m c) defs₀ 𝒱₀ () Set.univ := fun t => by
  obtain rfl := fin_N0 t
  rw [bigSep_W0, bigSep_W0]
  simp only [owns_whole_eq]
  show iprop(Φ₀ m c ∗ (dat m c).owesAt () t0_0.castSucc ∗ (∃ d, stg c ((dat m c).before (0 : Fin 1) t0_0 d)))
    ⊢ wp frame (wpE (defs₀ (F := F)) 𝒱₀ (c : Thread nD τ) none) Set.univ (bodyAt0 (F := F) t0_0)
      (fun _ => iprop(Φ₁ m c ∗ (dat m c).owesAt () t0_0.succ ∗ stg c (result m c)))
  iintro ⟨HΦ, HO, Hs⟩
  iapply (body_step m c _)
  isplitl [HΦ]; · iexact HΦ
  isplitl [HO]; · iexact HO
  isplitl [Hs]; · iexact Hs
  iintro H; iexact H

/-! ## The arrays at the region's two ends -/

/-- The call's array starts as the result buffer's contents. -/
theorem arr_first (c : Dev nD) (w : Fin 1) : (dat (F := F) m c).arrAt w 0 = V₁ m c (Proc.devRef .tc (Pipeline.arrRef spec0 w)) := rfl

/-- The call's array ends as the result. -/
theorem arr_last (c : Dev nD) (w : Fin 1) : (dat (F := F) m c).arrAt w cfg0.N = V₂ m c (Proc.devRef .tc (Pipeline.arrRef spec0 w)) := by
  obtain rfl : w = 0 := Subsingleton.elim _ _
  refine (dat (F := F) m c).arrAt_eq_of_after_last (0 : Fin 1) t0_0 (by decide +kernel) _ ?_ (Memref.isWhole_whole _)
  intro j
  exact (congrFun (V₂_out m c) _).symm

/-! ## The region -/

/-- What the region takes of the launch's ghost state. -/
def start (c : Dev nD) : sProp 𝕄 := iprop((∃ K, ghost m K c) ∗ cred (tallyAt (barCell c) () 1) ∗ cred (tallyAt (recvCell c) () NR))

/-- At entry the six scoped cells open on their counters. -/
theorem enter (c : Dev nD) : iprop(start m c ∗ Pipeline.ownSems0 osem c ∗ levAts L lv) ⊢ (|={Set.univ}=> ready m c : sProp 𝕄) := by
  rw [own_eq]
  unfold start ready counters
  iintro ⟨⟨⟨%K, Hg⟩, Hb, Hr⟩, ⟨S0, S1, Sx, Sl, Ss, Sr⟩, Hlev⟩
  unfold ghost invs rights
  icases Hg with ⟨⟨#Ib, #I0, #I1, #Ix, #Il, #Is, #Ir, #Ibp, #Irp⟩, Ab, #Rbp, ⟨O0, O1, Ox, Ol, Os, Or⟩, Hpaid⟩
  imod (open' m _ _) $$ [O0 S0] with F0
  · isplitr; · iexact I0
    isplitl [O0] <;> iassumption
  imod (open' m _ _) $$ [O1 S1] with F1
  · isplitr; · iexact I1
    isplitl [O1] <;> iassumption
  imod (open' m _ _) $$ [Ox Sx] with Fx
  · isplitr; · iexact Ix
    isplitl [Ox] <;> iassumption
  imod (open' m _ _) $$ [Ol Sl] with Fl
  · isplitr; · iexact Il
    isplitl [Ol] <;> iassumption
  imod (open' m _ _) $$ [Os Ss] with Fs
  · isplitr; · iexact Is
    isplitl [Os] <;> iassumption
  imod (open' m _ _) $$ [Or Sr] with Fr
  · isplitr; · iexact Ir
    isplitl [Or] <;> iassumption
  imodintro
  isplitl [Ab F0 F1 Fx Fl Fs Fr Hpaid]
  · iexists K
    unfold opened invs
    isplitr
    · isplitr; · iexact Ib
      isplitr; · iexact I0
      isplitr; · iexact I1
      isplitr; · iexact Ix
      isplitr; · iexact Il
      isplitr; · iexact Is
      isplitr; · iexact Ir
      isplitr; · iexact Ibp
      iexact Irp
    isplitl [Ab]; · iexact Ab
    isplitr; · iexact Rbp
    isplitr [Hpaid]
    · isplitl [F0]; · iexact F0
      isplitl [F1]; · iexact F1
      isplitl [Fx]; · iexact Fx
      isplitl [Fl]; · iexact Fl
      isplitl [Fs] <;> iassumption
    iexact Hpaid
  isplitl [Hb]; · iexact Hb
  isplitl [Hr] <;> iassumption

/-- The call's facts for the launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The staging cell has the lowest level. -/
theorem stage_level (c : Dev nD) (s : Fin (cfg0.win (0 : Fin 1)).nbuf) : lv ((c : Thread nD τ), .dma ((cfg0.win (0 : Fin 1)).sem s)) () ≤ 0 := by
  have h : ∀ s : Fin (win0_0).nbuf, code (.dma ((win0_0).sem s)) = 1 := by decide
  unfold lv
  dsimp only
  rw [h s]; decide

/-- The call holds its array whole. -/
theorem share_eq (c : Dev nD) (w : Fin 1) : (dat (F := F) m c).share w = fullShare := by
  unfold Dat.share; split <;> rfl

/-- Whatever the call owes is owed on a compute core's cell, above level 0. -/
theorem owed_cut (c : Dev nD) (t : Fin (cfg0.N + 1)) (g : GSem nD τ sig) (i : Unit) (h : 0 < (dat (F := F) m c).owed t g i) :
    i ∈ L g ∧ (0 : ℕ) < lv g i := by
  have e : (dat (F := F) m c).owed t = due c ∨ (dat (F := F) m c).owed t = 0 := by
    obtain ⟨_ | _, ht⟩ := t
    · exact .inl rfl
    · exact .inr rfl
  rcases e with e | e <;> rw [e] at h
  · rcases due_pos h with rfl | rfl
    · exact ⟨L_tc _ _, by rw [lv_recv]; decide⟩
    · exact ⟨L_tc _ _, by rw [lv_bar]; decide⟩
  · exact absurd h (Nat.lt_irrefl 0)

/-- What the call starts from is what the body starts from. -/
theorem phi_intro (c : Dev nD) : iprop(Pipeline.scopedRest spec0 c ∗ (∃ r, prngReg c r) ∗ StableHlo.held (c : Thread nD τ) rest (V₁ m c) ∗ ready m c)
    ⊢ (dat (F := F) m c).Φ 0 := by
  show _ ⊢ Φ₀ m c
  unfold Φ₀
  iintro ⟨Hs, Hp, Hh, Hr⟩
  isplitl [Hr]; · iexact Hr
  isplitl [Hh]; · iapply (rest_intro m c); iexact Hh
  isplitl [Hs]; · iapply (scratches_intro c); iexact Hs
  iexact Hp

/-- What the body ends with is what the call ends with. -/
theorem phi_elim (c : Dev nD) : (dat (F := F) m c).Φ (Fin.last cfg0.N)
    ⊢ iprop(Pipeline.scopedRest spec0 c ∗ (∃ r, prngReg c r) ∗ StableHlo.held (c : Thread nD τ) rest (V₂ m c)
      ∗ Pipeline.ownSems0 osem c ∗ semVal (barCell c) 0) := by
  show Φ₁ m c ⊢ _
  rw [own_eq]
  unfold Φ₁
  iintro ⟨Hb, Hc, Hh, Hs, Hp⟩
  isplitl [Hs]; · iapply (scratches_elim c); iexact Hs
  isplitl [Hp]; · iexact Hp
  isplitl [Hh]; · iapply (rest_elim m c); iexact Hh
  isplitl [Hc] <;> iassumption

set_option backward.isDefEq.respectTransparency.types false in
/-- The kernel's region. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    rest rest (Finset.Subset.refl _) kit rfl (fun c => (body_obligation m c).loose)
    (fun _ => 0) due (fun c => (zero_add (due c)).symm) (fun _ => rfl) (fun _ => rfl) (share_eq m)
    (V₁ m) (V₂ m) (fun _ b hb => absurd hb (by rw [Finset.sdiff_self]; exact Finset.notMem_empty b))
    (start m) (fun c => semVal (barCell c) 0) (ready m) (fun c => semVal (barCell c) 0) (enter m) (phi_intro m) (phi_elim m)
    (fun c => by iintro H; imodintro; iexact H)
    (fun _ => 0)
    ⟨fun c w s => L_tc c _, fun c w s => by obtain rfl : w = (0 : Fin 1) := Subsingleton.elim _ _; exact stage_level c s, fun c t g i h => owed_cut m c t g i h⟩
    (fun _ => iprop(emp))
    (arr_first m) (arr_last m)

end Cert.KernelIdeal.Exchange

end
-- ==== Proof.KernelIdeal.Launch.lean ====
/-
  The launch and the run: every cell's invariant allocated, the duties' tokens dealt to the devices that pay them, and from
  there the run of @main on the four devices, with the result and the unchanged arguments read at the end.
-/
module

public import proofs.«01_k».proof.Proof.KernelIdeal.Region

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two segments of @main -/

/-- What rides beside the buffers up to the region. -/
def R (c : Dev nD) : sProp 𝕄 := iprop(start m c ∗ (∃ r, prngReg c r) ∗ owing c (due c))

/-- The host operations before the call touch only the buffers listed. -/
theorem hostOps0_bufs : ∀ op ∈ (hostOps0 : List (HloOp τ sig (Elt F))), op.bufs ⊆ bufs := fun op h => by
  simp only [hostOps0, List.mem_singleton] at h
  subst h
  show ({Proc.devRef .tc main_arg2, Proc.devRef .tc main_v1} : Finset (DevRef τ sig)) ⊆ bufs
  decide

/-- The reshape of the labels. -/
def prologue : Pipeline.HostSeg (Name := ℕ) (U := UU) (pcfgs (F := F)) defs₀ 𝒱₀ L lv :=
  Pipeline.HostSeg.ofOps _ _ _ _ _ bufs hostOps0 (hostOps0_bufs (F := F)) (List.forall_iff_forall_mem.mp hostOps0_fresh) (V₀ m) (R m)

/-- What the call starts from, of the buffers and the device's protocol holdings. -/
theorem region_pre (c : Dev nD) : iprop(StableHlo.held (c : Thread nD τ) bufs (V₁ m c) ∗ R m c) ⊢ (region m).pre c := by
  show _ ⊢ iprop(StableHlo.held (c : Thread nD τ) (Pipeline.arrRefs (τ := τ) (pcfgs (F := F) 0).spec) (V₁ m c) ∗ (∃ r, prngReg c r)
    ∗ (StableHlo.held (c : Thread nD τ) rest (V₁ m c) ∗ emp) ∗ start m c ∗ ∃ W, owes (c : Thread nD τ) (0 + due c) W)
  rw [arrRefs_eq (F := F), bufs_split, zero_add]
  unfold R owing
  iintro ⟨⟨Ho, Hr⟩, Hs, Hp, HO⟩
  isplitl [Ho]; · iexact Ho
  isplitl [Hp]; · iexact Hp
  isplitl [Hr]
  · isplitl [Hr]; · iexact Hr
    iempintro
  isplitl [Hs] <;> iassumption

/-- What the region leaves: @main's buffers, the result among them; the barrier counter; nothing owed. -/
abbrev Tₙ (c : Dev nD) : sProp 𝕄 := iprop(StableHlo.held (c : Thread nD τ) bufs (V₂ m c) ∗ semVal (barCell c) 0)

/-- What the call leaves: the final buffers, and nothing owed. -/
theorem region_post (c : Dev nD) : (region m).post c ⊢ iprop(Tₙ m c ∗ ∃ W, owes (c : Thread nD τ) (0 : CellTallies nD τ sig Unit) W) := by
  show iprop(StableHlo.held (c : Thread nD τ) (Pipeline.arrRefs (τ := τ) (pcfgs (F := F) 0).spec) (V₂ m c) ∗ (∃ r, prngReg c r)
    ∗ (StableHlo.held (c : Thread nD τ) rest (V₂ m c) ∗ emp) ∗ semVal (barCell c) 0
    ∗ ∃ W, owes (c : Thread nD τ) (0 : CellTallies nD τ sig Unit) W) ⊢ _
  dsimp only [Tₙ]
  rw [arrRefs_eq (F := F), bufs_split]
  iintro ⟨Ho, -, ⟨Hr, -⟩, Hb, HO⟩
  isplitr [HO]
  · isplitr [Hb]
    · isplitl [Ho] <;> iassumption
    iexact Hb
  iexact HO

/-- The program as a host part followed by the call. -/
def segs : List (Pipeline.Seg (pcfgs (F := F)) adm (pdats m) () defs₀ 𝒱₀ L lv) := [.host (prologue m), .region (region m)]

/-- The program is its two parts run in order. -/
theorem main_eq (c : Dev nD) : main (F := F) c = Pipeline.Seg.run (segs m) :=
  main_segs adm (pdats m) () 𝒱₀ L lv (prologue m) (region m) rfl c

/-! ## The cells and the tokens at launch -/

/-- The six semaphores of the call's own are distinct. -/
theorem osem_inj : Function.Injective osem := by decide
/-- None of them is the barrier's. -/
theorem osem_ne_bar : ∀ k : Fin 6, osem k ≠ .reg barS := by decide
/-- The semaphores with a duty. -/
abbrev tsem : Fin 7 → SemLoc sig := fun
  | 0 => .reg barS | 1 => .dma w0S | 2 => .dma w1S | 3 => .dma xS | 4 => .dma lS | 5 => .dma sendS | 6 => .dma recvS
/-- The seven semaphores with a duty are distinct. -/
theorem tsem_inj : Function.Injective tsem := by decide

/-- The device of a cell. -/
theorem dev_of_cell {c d : Dev nD} {s t : SemLoc sig} (h : cell c s = cell d t) : c = d :=
  congrArg (fun g : GSem nD τ sig => g.1.1) h

/-- The barrier cells, one for each device. -/
def barEmb : Dev nD ↪ GSem nD τ sig := ⟨barCell, fun _ _ h => dev_of_cell h⟩
/-- The own cells, six for each device. -/
def ownEmb : Dev nD × Fin 6 ↪ GSem nD τ sig :=
  ⟨fun p => cell p.1 (osem p.2), fun _ _ h => Prod.ext (dev_of_cell h) (osem_inj (congrArg Prod.snd h))⟩
/-- The tokens, seven for each device. -/
def tokEmb : Dev nD × Fin 7 ↪ GSem nD τ sig × ℕ × Unit :=
  ⟨fun p => (cell p.1 (tsem p.2), 0, ()), fun _ _ h =>
    Prod.ext (dev_of_cell (congrArg Prod.fst h)) (tsem_inj (congrArg (fun t : GSem nD τ sig × ℕ × Unit => t.1.2) h))⟩

/-- The barrier cells, funded with their counters; the own cells, funded dormant; every duty's token. -/
abbrev barCells : Finset (GSem nD τ sig) := Finset.univ.map barEmb
/-- All devices' own cells. -/
abbrev ownCells : Finset (GSem nD τ sig) := Finset.univ.map ownEmb
/-- All devices' tokens. -/
def tokens : Finset (GSem nD τ sig × ℕ × Unit) := Finset.univ.map tokEmb

/-- No barrier cell is an own cell. -/
theorem cells_disjoint : Disjoint barCells ownCells := by
  rw [Finset.disjoint_left]
  rintro g h h'
  obtain ⟨c, -, rfl⟩ := Finset.mem_map.mp h
  obtain ⟨p, -, e⟩ := Finset.mem_map.mp h'
  exact osem_ne_bar p.2 (congrArg Prod.snd e)

/-- A device's barrier cell is one of the cells. -/
theorem bar_mem (c : Dev nD) : barCell c ∈ barCells ∪ ownCells :=
  Finset.mem_union_left _ (Finset.mem_map_of_mem barEmb (Finset.mem_univ c))
/-- A device's own cells are among the cells. -/
theorem own_mem (c : Dev nD) (k : Fin 6) : cell c (osem k) ∈ barCells ∪ ownCells :=
  Finset.mem_union_right _ (Finset.mem_map_of_mem ownEmb (Finset.mem_univ (c, k)))

/-- The launch element: the pipeline's at its staging cell beside the exchange's. -/
def u₀ : UU :=
  (initOf (Pipeline.cells (Pipeline.pin (pcfgs (F := F)) adm) cellOf_inj) (Pipeline.launchToks (Pipeline.pin (pcfgs (F := F)) adm) cellOf_inj),
    launchOf barCells ownCells tokens)

/-- A resource parked on device 0. -/
def parked (X : sProp 𝕄) (c : Dev nD) : sProp 𝕄 := if c = 0 then X else iprop(emp)
omit [FloatOps F] in
/-- A conjunction in which only one device holds something is that something. -/
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

/-- The exchange's launch element, whole until the one global step. -/
def G : Dev nD → sProp 𝕄 := parked (BI.own (ER (launchOf barCells ownCells tokens)))

/-- What every device may consult: all the invariants, and round 0 of every barrier cell reached. -/
def records (κ : GSem nD τ sig → ℕ) : sProp 𝕄 :=
  iprop((bigSep (barCells ∪ ownCells) fun g => cellInv ER (sched m) (κ g) g) ∗ bigSep barCells fun g => reached ER g 0)

/-- The records may be used any number of times. -/
instance records_persistent (κ : GSem nD τ sig → ℕ) : BI.Persistent (records m κ) := by unfold records; infer_instance

/-- The records give any one cell's invariant. -/
theorem inv_at (κ : GSem nD τ sig → ℕ) {g : GSem nD τ sig} (hg : g ∈ barCells ∪ ownCells) :
    (bigSep (barCells ∪ ownCells) fun g => (cellInv ER (sched m) (κ g) g : sProp 𝕄)) ⊢ cellInv ER (sched m) (κ g) g :=
  bigSep_elim hg
/-- A barrier cell's round is at its start. -/
theorem reached_at (c : Dev nD) : (bigSep barCells fun g => (reached ER g 0 : sProp 𝕄)) ⊢ reached ER (barCell c) 0 :=
  bigSep_elim (Finset.mem_map_of_mem barEmb (Finset.mem_univ c))

/-- What is one device's alone. -/
def mine (c : Dev nD) : sProp 𝕄 := iprop(atPos ER (barCell c) 0 ∅ 0 ∗ rights c ∗ paid c)

/-- The records and a device's share make up the device's protocol state. -/
theorem ghost_intro (κ : GSem nD τ sig → ℕ) (c : Dev nD) : iprop(records m κ ∗ mine c) ⊢ iprop(∃ K, ghost m K c) := by
  unfold records mine ghost invs
  iintro ⟨⟨#HI, #HR⟩, Hat, Hrights, Hpaid⟩
  iexists κ
  isplitr
  · isplitr; · iapply (inv_at m κ (bar_mem c)); iexact HI
    isplitr; · iapply (inv_at m κ (own_mem c 0)); iexact HI
    isplitr; · iapply (inv_at m κ (own_mem c 1)); iexact HI
    isplitr; · iapply (inv_at m κ (own_mem c 2)); iexact HI
    isplitr; · iapply (inv_at m κ (own_mem c 3)); iexact HI
    isplitr; · iapply (inv_at m κ (own_mem c 4)); iexact HI
    isplitr; · iapply (inv_at m κ (own_mem c 5)); iexact HI
    isplitr; · iapply (inv_at m κ (bar_mem (peer c))); iexact HI
    iapply (inv_at m κ (own_mem (peer c) 5)); iexact HI
  isplitl [Hat]; · iexact Hat
  isplitr; · iapply (reached_at (F := F) (peer c)); iexact HR
  isplitl [Hrights] <;> iassumption

/-- The tokens by the cells they belong to. -/
def tokensOf (c : Dev nD) : sProp 𝕄 :=
  iprop(dutyTok ER (barCell c) 0 () ∗ dutyTok ER (cell c (.dma w0S)) 0 () ∗ dutyTok ER (cell c (.dma w1S)) 0 ()
    ∗ dutyTok ER (cell c (.dma xS)) 0 () ∗ dutyTok ER (cell c (.dma lS)) 0 () ∗ dutyTok ER (cell c (.dma sendS)) 0 ()
    ∗ dutyTok ER (recvCell c) 0 ())

omit [FloatOps F] in
/-- A conjunction over the seven semaphores, written out. -/
theorem bigSep_tsem (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- All tokens, dealt out device by device. -/
theorem tokens_eq : bigSep tokens (fun x => (dutyTok ER x.1 x.2.1 x.2.2 : sProp 𝕄)) = bigSep Finset.univ fun c : Dev nD => tokensOf c := by
  unfold tokens
  rw [bigSep_map, bigSep_univ_prod]
  exact bigSep_congr fun c _ => by unfold tokensOf; rw [bigSep_tsem]; rfl

omit [FloatOps F] in
/-- A token of each device's barrier and receive cell goes to its peer. -/
theorem tokens_dealt : (bigSep Finset.univ fun c : Dev nD => (tokensOf c : sProp 𝕄)) ⊢ bigSep Finset.univ fun c : Dev nD => paid c := by
  unfold tokensOf paid
  simp only [bigSep_sep']
  rw [bigSep_univ_equiv swap (fun c : Dev nD => (dutyTok ER (barCell c) 0 () : sProp 𝕄)),
    bigSep_univ_equiv swap (fun c : Dev nD => (dutyTok ER (recvCell c) 0 () : sProp 𝕄))]
  exact BI.Entails.refl _

/-! ## The launch credit -/

/-- The receive semaphore is not the barrier's. -/
theorem recv_ne_bar : (SemLoc.dma recvS : SemLoc sig) ≠ .reg barS := by decide

/-- A device owes one barrier unit to its peer and none to others. -/
theorem due_bar (d c : Dev nD) : due d (barCell c) () = if d = peer c then 1 else 0 := by
  unfold due
  rw [Pi.add_apply, Finsupp.add_apply, tallyAt_ne_cell (fun h => recv_ne_bar (congrArg Prod.snd h).symm), tallyAt_apply, Finsupp.zero_apply,
    Nat.zero_add]
  by_cases h : d = peer c
  · subst h; rw [peer_peer, if_pos ⟨rfl, rfl⟩, if_pos rfl]
  · rw [if_neg (fun ⟨e, _⟩ => h (by rw [dev_of_cell e, peer_peer])), if_neg h]
/-- A device owes its peer's receive cell one whole landing, and nothing to others. -/
theorem due_recv (d c : Dev nD) : due d (recvCell c) () = if d = peer c then NR else 0 := by
  unfold due
  rw [Pi.add_apply, Finsupp.add_apply, tallyAt_apply, tallyAt_ne_cell (fun h => recv_ne_bar (congrArg Prod.snd h)), Finsupp.zero_apply,
    Nat.add_zero]
  by_cases h : d = peer c
  · subst h; rw [peer_peer, if_pos ⟨rfl, rfl⟩, if_pos rfl]
  · rw [if_neg (fun ⟨e, _⟩ => h (by rw [dev_of_cell e, peer_peer])), if_neg h]

/-- What the other devices owe on one cell, when only the peer does. -/
theorem credit_at (c : Dev nD) (s : SemLoc sig) (n : ℕ) (h : ∀ d, due d (cell c s) () = if d = peer c then n else 0) :
    tallyOn (cell c s) (launchCredit (Pipeline.owing due) 0 (cell c s)) = (tallyAt (cell c s) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

omit [FloatOps F] in
/-- The units that a device may wait for are those its peer owes. -/
theorem credits (c : Dev nD) :
    (Pipeline.launchCred due c : sProp 𝕄) ⊢ iprop(cred (tallyAt (barCell c) () 1) ∗ cred (tallyAt (recvCell c) () NR)) := by
  unfold Pipeline.launchCred
  rw [bigSep_univ_at _ (SemLoc.reg barS), credit_at c (.reg barS) 1 fun d => due_bar d c]
  refine sep_mono_right ?_
  rw [← credit_at c (.dma recvS) NR fun d => due_recv d c]
  exact bigSep_elim (Finset.mem_erase.mpr ⟨recv_ne_bar, Finset.mem_univ _⟩)

/-! ## The first thread state -/

/-- What a device holds before the program's first step. -/
abbrev T₀ (c : Dev nD) : sProp 𝕄 := iprop(StableHlo.held (c : Thread nD τ) bufs (V₀ m c) ∗ R m c)

/-- What a device holds at launch beside the exchange's ghost state. -/
def holdings (c : Dev nD) : sProp 𝕄 :=
  iprop(StableHlo.held (c : Thread nD τ) bufs (V₀ m c) ∗ (cred (tallyAt (barCell c) () 1) ∗ cred (tallyAt (recvCell c) () NR))
    ∗ (∃ r, prngReg c r) ∗ owing c (due c))

/-- The records and a device's share and holdings make up what it starts with. -/
theorem T₀_intro (κ : GSem nD τ sig → ℕ) (c : Dev nD) : iprop(records m κ ∗ (mine c ∗ holdings m c)) ⊢ T₀ m c := by
  unfold holdings T₀ R start
  iintro ⟨#HR, Hm, Hh, ⟨Hb, Hr⟩, Hp, HO⟩
  isplitl [Hh]; · iexact Hh
  isplitl [Hm Hb Hr]
  · isplitl [Hm]
    · iapply (ghost_intro m κ c)
      isplitr; · iexact HR
      iexact Hm
    isplitl [Hb] <;> iassumption
  isplitl [Hp] <;> iassumption

omit [FloatOps F] in
/-- The barrier semaphore is the only one that outlives the call. -/
theorem unscoped_eq : ∀ sm : SemLoc sig, sm.isScoped .tc = false → sm = .reg barS := by decide
omit [FloatOps F] in
/-- The semaphores that outlive the call are the barrier's, at zero. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch state. -/
abbrev atLaunch (c : Dev nD) : sProp 𝕄 :=
  iprop(unscopedBufs c (fun b => m ((c : Thread nD τ).loc b)) ∗ unscopedSems0 c ∗ owes (c : Thread nD τ) (due c) ∅ ∗ Pipeline.launchCred due c
    ∗ prngReg c (ρ c) ∗ G c)

/-- What the launch gives a device is its holdings, its barrier counter, and its share of the exchange's launch element. -/
theorem atLaunch_split (c : Dev nD) : atLaunch m ρ c ⊢ (iprop(holdings m c ∗ (semVal (barCell c) 0 ∗ G c)) : sProp 𝕄) := by
  unfold atLaunch
  rw [show unscopedBufs c (fun b => m ((c : Thread nD τ).loc b)) = StableHlo.held (c : Thread nD τ) bufs (V₀ m c) from unscopedBufs_held c (V₀ m c),
    unscopedSems0_eq]
  unfold holdings owing
  iintro ⟨Hh, Hs, HO, Hcr, Hp, HG⟩
  ihave Hc := (credits (F := F) c) $$ Hcr
  isplitl [Hh HO Hc Hp]
  · isplitl [Hh]; · iexact Hh
    isplitl [Hc]; · iexact Hc
    isplitl [Hp]; · iexists (ρ c); iexact Hp
    iexists ∅; iexact HO
  isplitl [Hs] <;> iassumption

omit [FloatOps F] in
/-- The barrier counters of all devices, as a conjunction over the barrier cells. -/
theorem bar_counters : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
omit [FloatOps F] in
theorem bar_positions : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
/-- The rights to the own cells, dealt out device by device. -/
theorem own_rights : bigSep ownCells (fun g => (openTok ER g : sProp 𝕄)) ⊢ bigSep Finset.univ (fun c : Dev nD => (rights c : sProp 𝕄)) :=
  Entails.of_eq (by
    rw [bigSep_map, bigSep_univ_prod]
    exact bigSep_congr fun c _ => bigSep_osem fun k => (openTok ER (cell c (osem k)) : sProp 𝕄))

omit [FloatOps F] in
/-- A family of pairs is a pair of families. -/
theorem unjoin {Φ Ψ : Dev nD → sProp 𝕄} : bigSep Finset.univ (fun c => iprop(Φ c ∗ Ψ c)) ⊢ iprop(bigSep Finset.univ Φ ∗ bigSep Finset.univ Ψ) :=
  Entails.of_eq (bigSep_sep' Finset.univ Φ Ψ)
omit [FloatOps F] in
theorem join {Φ Ψ : Dev nD → sProp 𝕄} : iprop(bigSep Finset.univ Φ ∗ bigSep Finset.univ Ψ) ⊢ bigSep Finset.univ (fun c => iprop(Φ c ∗ Ψ c)) :=
  Entails.of_eq (bigSep_sep' Finset.univ Φ Ψ).symm

/-- The one global step: the cells funded, everything dealt. -/
theorem deal : iprop((bigSep Finset.univ fun c : Dev nD => atLaunch m ρ c) ∗ levAts L lv) ⊢ (|={Set.univ}=> bigSep Finset.univ (T₀ m) : sProp 𝕄) := by
  iintro ⟨H, -⟩
  ihave H' := (show (bigSep Finset.univ fun c : Dev nD => atLaunch m ρ c)
      ⊢ (bigSep Finset.univ fun c : Dev nD => iprop(holdings m c ∗ (semVal (barCell c) 0 ∗ G c)) : sProp 𝕄)
    from bigSep_mono fun c _ => atLaunch_split m ρ c) $$ H
  ihave H2 := unjoin $$ H'
  icases H2 with ⟨HB, H3⟩
  ihave H4 := unjoin $$ H3
  icases H4 with ⟨Hv, HG⟩
  ihave Hu := (show bigSep Finset.univ (G (F := F)) ⊢ BI.own (ER (launchOf barCells ownCells tokens)) from
    Entails.of_eq (bigSep_parked (F := F) (BI.own (ER (launchOf barCells ownCells tokens))))) $$ HG
  imod (Rounds.fund_launch ER (sched m) cells_disjoint (fun g _ h => h) tokens) $$ [Hv Hu] with ⟨%κ, -, #Hinv, #Hr, Hat, Hopen, Htok⟩
  · isplitl [Hv]
    · iapply bar_counters $$ Hv
    · iexact Hu
  imodintro
  iapply (bigSep_with_persistent (R := records m κ) (Φ := fun c => iprop(mine c ∗ holdings m c)) fun c _ => T₀_intro m κ c)
  isplitr
  · unfold records
    isplitr; · iexact Hinv
    iexact Hr
  iapply join
  isplitr [HB]
  · unfold mine
    iapply join; isplitl [Hat]; · iapply bar_positions $$ Hat
    iapply join; isplitl [Hopen]; · iapply own_rights $$ Hopen
    iapply (tokens_dealt (F := F))
    iapply (Entails.of_eq (tokens_eq (F := F))) $$ Htok
  · iexact HB

/-! ## The run -/

/-- What a final state shows of one device. -/
def Seen (c : Dev nD) (s : MemSt nD τ sig (Elt F)) : Prop :=
  (s.mem ((c : Thread nD τ).loc main_v2) = result m c ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)) ∧ s.sem (barCell c) = 0

/-- The last thread state shows it. -/
theorem seen (c : Dev nD) (s : Phys nD τ sig (Elt F)) : iprop(Tₙ m c ∗ SI s) ⊢ (|={Set.univ}=> iprop(⌜Seen m c s.mem⌝ ∗ SI s) : sProp 𝕄) := by
  dsimp only [Tₙ]
  rw [bufs_split, outs_held, rest_held, V₂_out, V₂_rest m c (Proc.devRef .tc main_arg0) (by decide),
    V₂_rest m c (Proc.devRef .tc main_arg1) (by decide), V₂_rest m c (Proc.devRef .tc main_arg2) (by decide),
    V₁_eq m c main_arg0, V₁_eq m c main_arg1, V₁_eq m c main_arg2, V_main_arg0, V_main_arg1, V_main_arg2]
  iintro ⟨⟨⟨Ho, H0, H1, H2, -⟩, Hb⟩, HSI⟩
  icombine HSI Ho gives %ho
  icombine HSI H0 gives %h0
  icombine HSI H1 gives %h1
  icombine HSI H2 gives %h2
  icombine HSI Hb gives %hb
  imodintro
  isplitr
  · ipureintro
    exact ⟨⟨Buf.eq_of_forall_mem_univ ho, Buf.eq_of_forall_mem_univ h0, Buf.eq_of_forall_mem_univ h1, Buf.eq_of_forall_mem_univ h2⟩, by simpa using hb⟩
  iexact HSI

/-- The launch element splits into the pipeline's and the exchange's. -/
theorem u₀_split : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (G (F := F))) := by
  unfold u₀ G
  iintro Hu
  ihave H := (ownU_pair _ _) $$ Hu
  icases H with ⟨HP, HX⟩
  imodintro
  isplitl [HP]; · iexact HP
  rw [bigSep_parked]
  iexact HX

set_option backward.isDefEq.respectTransparency.types false in
/-- From any memory with zero counters, every fair execution of @main on the four devices ends, each device's result array
    holding `result`, its arguments as they were, every semaphore at zero. -/
theorem run_main : θ_run (defs (F := F)) (onTc (τ := τ) (main (F := F))) ⟨m, fun _ => 0, ρ⟩
    (fun r => (∀ c : Dev nD, r.2.mem ((c : Thread nD τ).loc main_v2) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := due) (hL := L_of_ne) (G := G) (u₀ := u₀) (hu₀ := u₀_split)
    (T₀ := T₀ m) (Tₙ := Tₙ m)
    (hch := ⟨fun c => .rfl, fun c => region_pre m c, fun c => region_post m c⟩)
    (hinit := deal m ρ) (QY := Seen m) (hfin := seen m)
    (hQ := fun s h hs => ⟨fun c => (h c).1, sem_eq_zero hs fun c sm hsm => by
      obtain rfl := unscoped_eq sm hsm
      exact (h c).2⟩)

end Cert.KernelIdeal.Exchange

end
-- ==== Proof.Precond.lean ====
/-
  What the precondition says of one device's labels: each names one of the 8192 columns.
-/
module

public import proofs.«01_k».proof.Pre_labels_in_range_KernelIdeal
public import Idealize.ShloMosaic.Lib.ReduceAll
public import Idealize.ShloMosaic.Lib.WordCmp
public import Idealize.ShloMosaic.PureOps.Ideal
public import Idealize.ShloMosaic.PureOps.Ideal.Laws

@[expose] public section

noncomputable section

namespace Cert.Precond

open Idealize.ShloMosaic
open Cert.Pre_labels_in_range_KernelIdeal

/-- A word that is at least 0 and below 8192, both as signed numbers, is the word of a column. -/
theorem column_of_range (b : BitVec 32) (h0 : IntOp.cmpi .sge b 0#32 = 1#1) (h1 : IntOp.cmpi .slt b 8192#32 = 1#1) :
    ∃ a : Fin 8192, b = BitVec.ofNat 32 a.val := by
  rw [WordCmp.cmpi_sge_eq, WordCmp.ofBool_decide_eq_one_iff] at h0
  rw [WordCmp.cmpi_slt_eq, WordCmp.ofBool_decide_eq_one_iff] at h1
  have e0 : (0#32).toInt = 0 := by decide
  have e1 : (8192#32).toInt = 8192 := by decide
  rw [e0] at h0
  rw [e1] at h1
  have hn := WordCmp.toInt_eq_toNat_of_lt_half ((WordCmp.toInt_nonneg_iff_lt_half b).1 h0)
  exact ⟨⟨b.toNat, by omega⟩, (BitVec.ofNat_toNat 32 b).trans (BitVec.setWidth_eq b) |>.symm⟩

/-- The precondition read back, label by label. -/
theorem labels [Facts] (x : FVec Ideal S256x512 .f32) (w : FVec Ideal S512x4096 .f32) (lab : IVec S256 32)
    (h : fn (F := Ideal) x w lab = fun _ => 1#1) (j : S256.Idx) : ∃ a : Fin 8192, lab j = BitVec.ofNat 32 a.val := by
  haveI : Subsingleton S_.Idx := ⟨fun a b => funext fun d => d.elim0⟩
  have e := congrFun h (Shape.Idx.first Facts.h_S_)
  dsimp only [fn] at e
  obtain ⟨h0, h1⟩ := IntOp.andi_eq_one.1 (Host.reduce_andi_all _ _ _ _ _ e j)
  exact column_of_range _ h0 h1

end Cert.Precond

end
-- ==== Proof.Lse.lean ====
/-
  The logarithm of a sum of exponentials, kept as a pair of a running shift and a scaled sum, over the extended reals.

  A pair (M, S) stands for a sum T of exponentials when S is T · exp (−M), and M is +∞ exactly when T is, and T is zero when M is
  −∞. Widening the shift by further columns, merging two pairs, and reading the logarithm off a pair all respect what the pair
  stands for, whatever the shift is and whichever of the columns are infinite.
-/
module

public import Idealize.ShloMosaic.PureOps.Ideal
public import Idealize.ShloMosaic.PureOps.Ideal.Laws

@[expose] public section

noncomputable section

namespace Cert.Lse

open Idealize.ShloMosaic

/-- An exponential is not negative. -/
theorem exp_nonneg (v : EReal) : 0 ≤ Ideal.exp v := by
  induction v with
  | bot => exact le_rfl
  | top => exact le_top
  | coe r => exact EReal.coe_nonneg.2 (Real.exp_pos r).le

/-- An exponential is +∞ exactly when its argument is. -/
theorem exp_eq_top (v : EReal) : Ideal.exp v = ⊤ ↔ v = ⊤ := by
  induction v with
  | bot => exact ⟨fun h => absurd h EReal.zero_ne_top, fun h => absurd h bot_ne_top⟩
  | top => exact ⟨fun _ => rfl, fun _ => rfl⟩
  | coe r => exact ⟨fun h => absurd h (EReal.coe_ne_top _), fun h => absurd h (EReal.coe_ne_top _)⟩

/-- A sum of two numbers that are not negative is +∞ exactly when one of them is. -/
theorem add_eq_top {a b : EReal} (ha : 0 ≤ a) (hb : 0 ≤ b) : a + b = ⊤ ↔ a = ⊤ ∨ b = ⊤ := by
  have na : a ≠ ⊥ := fun e => absurd (e ▸ ha) (by simp)
  have nb : b ≠ ⊥ := fun e => absurd (e ▸ hb) (by simp)
  constructor
  · intro h
    by_contra hc
    rw [not_or] at hc
    rw [← EReal.coe_toReal hc.1 na, ← EReal.coe_toReal hc.2 nb, ← EReal.coe_add] at h
    exact EReal.coe_ne_top _ h
  · rintro (rfl | rfl)
    · exact EReal.top_add_of_ne_bot nb
    · exact EReal.add_top_of_ne_bot na

/-- A sum of numbers that are not negative is +∞ exactly when one of them is. -/
theorem sum_eq_top {α : Type} (s : Finset α) (f : α → EReal) (hf : ∀ k, 0 ≤ f k) : (∑ k ∈ s, f k) = ⊤ ↔ ∃ k ∈ s, f k = ⊤ := by
  classical
  induction s using Finset.induction_on with
  | empty => simp
  | insert a s ha ih =>
    rw [Finset.sum_insert ha, add_eq_top (hf a) (Finset.sum_nonneg fun k _ => hf k), ih, Finset.exists_mem_insert]

/-- A common factor of a sum of numbers that are not negative. -/
theorem sum_mul {α : Type} (s : Finset α) (f : α → EReal) (e : EReal) (hf : ∀ k, 0 ≤ f k) : (∑ k ∈ s, f k * e) = (∑ k ∈ s, f k) * e := by
  classical
  induction s using Finset.induction_on with
  | empty => simp
  | insert a s ha ih =>
    rw [Finset.sum_insert ha, Finset.sum_insert ha, ih,
      EReal.right_distrib_of_nonneg (hf a) (Finset.sum_nonneg fun k _ => hf k)]

/-- The exponential of a column less a shift that is at least the column: the exponential, scaled. -/
theorem exp_sub {v M : EReal} (h : v ≤ M) : Ideal.exp (v - M) = Ideal.exp v * Ideal.exp (-M) := by
  induction M with
  | bot =>
    rw [le_bot_iff] at h
    subst h
    simp
  | top => rw [EReal.sub_top, EReal.neg_top, Ideal.exp_bot, mul_zero]
  | coe m =>
    induction v with
    | bot => rw [EReal.bot_sub, Ideal.exp_bot, zero_mul]
    | top => exact absurd (top_le_iff.1 h) (EReal.coe_ne_top m)
    | coe r =>
      rw [← EReal.coe_sub, ← EReal.coe_neg, Ideal.exp_coe, Ideal.exp_coe, Ideal.exp_coe, ← EReal.coe_mul, ← Real.exp_add,
        sub_eq_add_neg]

/-- The pair (M, S) stands for the sum T of exponentials. -/
structure Stands (M S T : EReal) : Prop where
  /-- The sum is scaled by the shift. -/
  scaled : S = T * Ideal.exp (-M)
  /-- The sum of exponentials is not negative. -/
  nonneg : 0 ≤ T
  /-- The shift is +∞ exactly when the sum is. -/
  top : M = ⊤ ↔ T = ⊤
  /-- The shift is −∞ only when the sum is zero. -/
  bot : M = ⊥ → T = 0

/-- The empty pair, at any shift below +∞, stands for zero. -/
theorem stands_zero {M : EReal} (h : M ≠ ⊤) : Stands M 0 0 :=
  ⟨(zero_mul _).symm, le_rfl, ⟨fun e => absurd e h, fun e => absurd e EReal.zero_ne_top⟩, fun _ => rfl⟩

/-- A pair's sum taken to a larger shift. -/
theorem Stands.shift {M S T M' : EReal} (h : Stands M S T) (hM : M ≤ M') : S * Ideal.exp (M - M') = T * Ideal.exp (-M') := by
  rw [h.scaled]
  induction M with
  | bot => rw [h.bot rfl, zero_mul, zero_mul, zero_mul]
  | top =>
    rw [top_le_iff] at hM
    subst hM
    rw [EReal.sub_top, EReal.neg_top, Ideal.exp_bot, mul_zero, mul_zero]
  | coe m =>
    rw [exp_sub hM, mul_assoc, ← mul_assoc (Ideal.exp (-(m : EReal))), ← EReal.coe_neg, Ideal.exp_coe, Ideal.exp_coe, ← EReal.coe_mul,
      ← Real.exp_add, neg_add_cancel, Real.exp_zero, EReal.coe_one, one_mul]

/-- A pair widened by further columns stands for what it stood for and the columns' exponentials. -/
theorem Stands.widen {M S T : EReal} (h : Stands M S T) {n : Nat} (l : Fin n → EReal) {M' : EReal}
    (hM' : M' = max M ((Finset.univ : Finset (Fin n)).fold max (⊥ : EReal) l)) :
    Stands M' (S * Ideal.exp (M - M') + ∑ k : Fin n, Ideal.exp (l k - M')) (T + ∑ k : Fin n, Ideal.exp (l k)) := by
  have hM : M ≤ M' := hM' ▸ le_max_left _ _
  have hl : ∀ k, l k ≤ M' := fun k =>
    hM' ▸ le_max_of_le_right ((Finset.le_fold_max (l k)).2 (Or.inr ⟨k, Finset.mem_univ k, le_rfl⟩))
  have hs : 0 ≤ ∑ k : Fin n, Ideal.exp (l k) := Finset.sum_nonneg fun k _ => exp_nonneg _
  refine ⟨?_, add_nonneg h.nonneg hs, ?_, fun e => ?_⟩
  · rw [h.shift hM, Finset.sum_congr rfl (fun k _ => exp_sub (hl k)), sum_mul _ _ _ (fun k => exp_nonneg _),
      EReal.right_distrib_of_nonneg h.nonneg hs]
  · rw [add_eq_top h.nonneg hs, sum_eq_top _ _ (fun k => exp_nonneg _), ← h.top, hM', max_eq_top, ← top_le_iff (a := Finset.fold _ _ _ _),
      Finset.le_fold_max]
    simp only [top_le_iff, bot_ne_top, false_or, exp_eq_top]
  · rw [e, le_bot_iff] at hM
    rw [h.bot hM, zero_add]
    refine Finset.sum_eq_zero fun k _ => ?_
    have hk := hl k
    rw [e, le_bot_iff] at hk
    rw [hk]; rfl

/-- Two pairs merged at the larger shift stand for the sum of what they stood for. -/
theorem Stands.merge {M S M₂ S₂ T T₂ : EReal} (h : Stands M S T) (h₂ : Stands M₂ S₂ T₂) :
    Stands (max M M₂) (S * Ideal.exp (M - max M M₂) + S₂ * Ideal.exp (M₂ - max M M₂)) (T + T₂) := by
  refine ⟨?_, add_nonneg h.nonneg h₂.nonneg, ?_, fun e => ?_⟩
  · rw [h.shift (le_max_left _ _), h₂.shift (le_max_right _ _), EReal.right_distrib_of_nonneg h.nonneg h₂.nonneg]
  · rw [add_eq_top h.nonneg h₂.nonneg, ← h.top, ← h₂.top, max_eq_top]
  · rw [max_eq_bot] at e
    rw [h.bot e.1, h₂.bot e.2, zero_add]

/-- The logarithm of a sum of exponentials as both sides compute it: at an infinite sum it comes out −∞. -/
def lse (T : EReal) : EReal := if T = ⊤ then ⊥ else Ideal.log T

/-- The shift plus the logarithm of the scaled sum depends only on what the pair stands for. -/
theorem Stands.log {M S T : EReal} (h : Stands M S T) : M + Ideal.log S = lse T := by
  have log_zero : Ideal.log 0 = ⊥ := by
    rw [← EReal.coe_zero, Ideal.log_coe, if_pos le_rfl]
  rw [h.scaled]
  unfold lse
  by_cases hT : T = ⊤
  · rw [if_pos hT, h.top.2 hT, EReal.neg_top, Ideal.exp_bot, mul_zero, log_zero, EReal.add_bot]
  rw [if_neg hT]
  by_cases h0 : T = 0
  · rw [h0, zero_mul, log_zero, EReal.add_bot]
  have hb : T ≠ ⊥ := fun e => absurd (e ▸ h.nonneg) (by simp)
  have mt : M ≠ ⊤ := fun e => hT (h.top.1 e)
  have mb : M ≠ ⊥ := fun e => h0 (h.bot e)
  have pos : 0 < T := lt_of_le_of_ne h.nonneg (Ne.symm h0)
  obtain ⟨t, rfl⟩ : ∃ t : ℝ, T = (t : EReal) := ⟨T.toReal, (EReal.coe_toReal hT hb).symm⟩
  obtain ⟨m, rfl⟩ : ∃ m : ℝ, M = (m : EReal) := ⟨M.toReal, (EReal.coe_toReal mt mb).symm⟩
  have pos' : 0 < t := EReal.coe_pos.1 pos
  rw [← EReal.coe_neg, Ideal.exp_coe, ← EReal.coe_mul, Ideal.log_coe, Ideal.log_coe,
    if_neg (not_le.mpr (mul_pos pos' (Real.exp_pos _))), if_neg (not_le.mpr pos'), ← EReal.coe_add,
    Real.log_mul pos'.ne' (Real.exp_pos _).ne', Real.log_exp]
  congr 1; ring

/-- The sum over one of the four windows of 2048 columns of a row. -/
def window (f : Fin 8192 → EReal) (q : Fin 4) : EReal := ∑ k : Fin 2048, f ⟨2048 * q.val + k.val, by omega⟩

/-- The sum of a row is the sum over its four windows. -/
theorem sum_windows (f : Fin 8192 → EReal) : ∑ j, f j = window f 0 + window f 1 + window f 2 + window f 3 := by
  rw [← Fin.sum_univ_four (window f), ← (finProdFinEquiv (m := 4) (n := 2048)).sum_comp f, Fintype.sum_prod_type]
  refine Finset.sum_congr rfl fun q _ => Finset.sum_congr rfl fun k _ => congrArg f (Fin.ext ?_)
  show k.val + 2048 * q.val = 2048 * q.val + k.val
  omega

/-- The sum over one of the two halves of 4096 columns of a row: two windows. -/
def half (f : Fin 8192 → EReal) (y : Fin 2) : EReal := window f ⟨2 * y.val, by omega⟩ + window f ⟨2 * y.val + 1, by omega⟩

/-- The sum of a row is the sum over its halves, in either order. -/
theorem sum_halves (f : Fin 8192 → EReal) (y z : Fin 2) (h : y ≠ z) : half f y + half f z = ∑ j, f j := by
  rw [sum_windows]
  have key : half f 0 + half f 1 = window f 0 + window f 1 + window f 2 + window f 3 := by
    show window f 0 + window f 1 + (window f 2 + window f 3) = _
    rw [add_assoc (window f 0 + window f 1)]
  rcases Fin.eq_zero_or_eq_succ y with rfl | ⟨a, rfl⟩ <;> rcases Fin.eq_zero_or_eq_succ z with rfl | ⟨b, rfl⟩
  · exact absurd rfl h
  · rw [Subsingleton.elim b 0]; exact key
  · rw [Subsingleton.elim a 0]; exact (add_comm _ _).trans key
  · exact absurd (by rw [Subsingleton.elim a b]) h

/-- The sum of a row that is zero but at one column is the row's number there. -/
theorem sum_pick (f : Fin 8192 → EReal) (a : Fin 8192) : (∑ j, if j = a then f j else 0) = f a := by
  rw [Finset.sum_ite_eq' Finset.univ a f, if_pos (Finset.mem_univ a)]

end Cert.Lse

end
-- ==== Proof.Reference.lean ====
/-
  The reference's value over the extended reals, element by element: with the label in range it is the logarithm of the sum
  of the row's exponentials, less the label's logit.
-/
module

public import proofs.«01_k».proof.Proof.Gen.ReferenceIdeal.Run
public import proofs.«01_k».proof.Proof.Lse
public import Idealize.ShloMosaic.Lib.Pointwise
public import Idealize.ShloMosaic.Lib.WordCmp

@[expose] public section

noncomputable section

namespace Cert.ReferenceIdeal.Entropy

open Cert.ReferenceIdeal Cert.ReferenceIdeal.Gen
open Idealize.ShloMosaic
open Cert.Lse

/-- The logits: activations times weights. -/
def logits (x : FVec Ideal S256x512 .f32) (w : FVec Ideal S512x8192 .f32) : FVec Ideal S256x8192 .f32 :=
  Host.dotGeneral dot_S256x512_S512x8192_S256x8192_1_0_0_1_n_n none x w

/-- Each row's largest logit. -/
def top (l : FVec Ideal S256x8192 .f32) : FVec Ideal S256 .f32 :=
  Host.reduce FloatOps.maximumf l (constant S_ .f32 0xFF800000#32) reducesTo_S256x8192_S256_d1 h_S_

/-- Each row's sum of exponentials, shifted by its largest logit. -/
def total (l : FVec Ideal S256x8192 .f32) : FVec Ideal S256 .f32 :=
  Host.reduceAdd (Host.exp (subf l (broadcastInDim S256x8192 ![0, 1] bcast_S256x1_S256x8192_0_1
    (broadcastInDim S256x1 ![0] bcast_S256_S256x1_0 (top l))))) (constant S_ .f32 0x00000000#32) reducesTo_S256x8192_S256_d1 h_S_

/-- Shift plus logarithm of the sum, row by row. -/
def join (m t : FVec Ideal S256 .f32) : FVec Ideal S256 .f32 :=
  shapeCast S256 (addf (broadcastInDim S256x1 ![0] bcast_S256_S256x1_0 m)
    (Host.log (broadcastInDim S256x1 ![0] bcast_S256_S256x1_0 t))) shapeCasts_S256x1_S256

/-- Each row's logarithm of the sum of exponentials. -/
def lse (l : FVec Ideal S256x8192 .f32) : FVec Ideal S256 .f32 := join (top l) (total l)

/-- The row numbers, a negative one counted from the end. -/
def rows : IVec S256 32 :=
  select (cmpi .slt (iotaInDim S256 32 0) (broadcastInDim S256 ![] bcast_S_S256 (constantI S_ 32 0#32)))
    (addi (iotaInDim S256 32 0) (broadcastInDim S256 ![] bcast_S_S256 (constantI S_ 32 256#32))) (iotaInDim S256 32 0)

/-- The labels, a negative one counted from the end. -/
def cols (lab : IVec S256 32) : IVec S256 32 :=
  select (cmpi .slt lab (broadcastInDim S256 ![] bcast_S_S256 (constantI S_ 32 0#32)))
    (addi lab (broadcastInDim S256 ![] bcast_S_S256 (constantI S_ 32 8192#32))) lab

/-- The places of the label's logits: a row number and a column number for each row. -/
def places (lab : IVec S256 32) : IVec S256x2 32 :=
  concatenate S256x2 1 [⟨S256x1, broadcastInDim S256x1 ![0] bcast_S256_S256x1_0 rows⟩,
    ⟨S256x1, broadcastInDim S256x1 ![0] bcast_S256_S256x1_0 (cols lab)⟩] concatenates_S256x1_S256x1_S256x2_d1

/-- The reference's result. -/
def entropy (x : FVec Ideal S256x512 .f32) (w : FVec Ideal S512x8192 .f32) (lab : IVec S256 32) : FVec Ideal S256 .f32 :=
  subf (lse (logits x w)) (Host.gather gather_S256x8192_S256x2_S256_n_01_n_n_01_1_11 (logits x w) (places lab))

/-- The pattern of −∞ denotes the least extended real. -/
theorem neg_inf : Ideal.ofBits .f32 0xFF800000#32 = (⊥ : EReal) := by
  simp [Ideal.ofBits, Ideal.ieee, -EReal.coe_mul]

/-- A logit is the sum of the products along the inner axis. -/
theorem logits_apply (x : FVec Ideal S256x512 .f32) (w : FVec Ideal S512x8192 .f32) (i : Fin 256) (k : Fin 8192) :
    logits x w (ix2 i k) = ∑ q : Fin 512, x (ix2 i q) * w (ix2 q k) := by
  pointwise [logits]

/-- A row's largest logit is taken from −∞ over its columns. -/
theorem top_apply (l : FVec Ideal S256x8192 .f32) (i : Fin 256) :
    top l (ix1 i) = (Finset.univ : Finset (Fin 8192)).fold max ⊥ fun k => l (ix2 i k) := by
  rw [← neg_inf]
  pointwise [top]

/-- A row's sum of shifted exponentials. -/
theorem total_apply (l : FVec Ideal S256x8192 .f32) (i : Fin 256) :
    total l (ix1 i) = ∑ k : Fin 8192, Ideal.exp (l (ix2 i k) - top l (ix1 i)) := by
  pointwise [total]

/-- Shift plus logarithm of the sum, at a row. -/
theorem join_apply (m t : FVec Ideal S256 .f32) (i : Fin 256) : join m t (ix1 i) = m (ix1 i) + Ideal.log (t (ix1 i)) := by
  pointwise [join]

/-- A difference of two vectors, at a row. -/
theorem minus_apply (p q : FVec Ideal S256 .f32) (i : Fin 256) : subf p q (ix1 i) = p (ix1 i) - q (ix1 i) := by
  pointwise

/-- A number below 2³¹ is kept, not counted from the end. -/
theorem keep (n : Nat) (h : n < 2 ^ 31) (v : BitVec 32) :
    Scalar.select (IntOp.cmpi .slt (BitVec.ofNat 32 n) 0#32) v (BitVec.ofNat 32 n) = BitVec.ofNat 32 n := by
  rw [WordCmp.cmpi_slt_ofNat (w := 32) (a := n) (b := 0) h (by decide), decide_eq_false (Nat.not_lt_zero n)]
  rfl

/-- The row number of a row is its own. -/
theorem rows_apply (i : Fin 256) : rows (ix1 i) = BitVec.ofNat 32 i.val := by
  pointwise [rows]
  exact keep _ (by omega) _

/-- The column number of a row is its label, when that is in range. -/
theorem cols_apply (lab : IVec S256 32) (i : Fin 256) (a : Fin 8192) (h : lab (ix1 i) = BitVec.ofNat 32 a.val) :
    cols lab (ix1 i) = BitVec.ofNat 32 a.val := by
  pointwise [cols]
  rw [h]
  exact keep _ (by omega) _

/-- A place's first number is the row number. -/
theorem places_row (lab : IVec S256 32) (i : Fin 256) : places lab (ix2 i 0) = rows (ix1 i) := by
  pointwise [places]

/-- A place's second number is the column number. -/
theorem places_col (lab : IVec S256 32) (i : Fin 256) : places lab (ix2 i 1) = cols lab (ix1 i) := by
  pointwise [places]

/-- The gather takes, for each row, the one element at the place its two numbers name, each kept within its axis. -/
theorem gather_apply (l : FVec Ideal S256x8192 .f32) (idx : IVec S256x2 32) (i : Fin 256) :
    Host.gather gather_S256x8192_S256x2_S256_n_01_n_n_01_1_11 l idx (ix1 i)
      = l (ix2 ⟨min (idx (ix2 i 0)).toInt.toNat 255, by omega⟩ ⟨min (idx (ix2 i 1)).toInt.toNat 8191, by omega⟩) := by
  unfold Host.gather
  refine congrArg l (funext fun b => Fin.ext ?_)
  show GatherDims.start _ (ix1 i) idx b + GatherDims.batchCoord _ (ix1 i) b + GatherDims.offCoord _ (ix1 i) b = _
  have hmem : b ∈ gather_S256x8192_S256x2_S256_n_01_n_n_01_1_11.startIndexMap := by
    match b with
    | ⟨0, _⟩ => exact List.mem_cons_self
    | ⟨1, _⟩ => exact List.mem_cons_of_mem _ (List.mem_singleton.mpr rfl)
  rw [GatherDims.batchCoord_eq_zero _ _ _ (List.not_mem_nil), GatherDims.offCoord_eq_zero _ _ _
    (fun h => ((GatherDims.mem_sKept _ _).mp h).1 hmem), Nat.add_zero]
  unfold GatherDims.start
  rw [dif_pos hmem]
  match b with
  | ⟨0, _⟩ =>
    have hs : gather_S256x8192_S256x2_S256_n_01_n_n_01_1_11.siIdx (ix1 i) ⟨0, by decide⟩ = ix2 i 0 := by
      funext d; refine Fin.ext ?_
      match d with
      | ⟨0, _⟩ => rfl
      | ⟨1, _⟩ => rfl
    exact congrArg (fun d => min (idx d).toInt.toNat 255) hs
  | ⟨1, _⟩ =>
    have hs : gather_S256x8192_S256x2_S256_n_01_n_n_01_1_11.siIdx (ix1 i) ⟨1, by decide⟩ = ix2 i 1 := by
      funext d; refine Fin.ext ?_
      match d with
      | ⟨0, _⟩ => rfl
      | ⟨1, _⟩ => rfl
    exact congrArg (fun d => min (idx d).toInt.toNat 8191) hs

/-- With the label in range, the gather takes the label's logit. -/
theorem picked (l : FVec Ideal S256x8192 .f32) (lab : IVec S256 32) (i : Fin 256) (a : Fin 8192)
    (h : lab (ix1 i) = BitVec.ofNat 32 a.val) :
    Host.gather gather_S256x8192_S256x2_S256_n_01_n_n_01_1_11 l (places lab) (ix1 i) = l (ix2 i a) := by
  rw [gather_apply]
  refine congrArg₂ (fun p q => l (ix2 p q)) (Fin.ext ?_) (Fin.ext ?_)
  · show min (places lab (ix2 i 0)).toInt.toNat 255 = i.val
    rw [places_row, rows_apply, WordCmp.toInt_ofNat_of_lt (w := 32) (by omega)]
    omega
  · show min (places lab (ix2 i 1)).toInt.toNat 8191 = a.val
    rw [places_col, cols_apply lab i a h, WordCmp.toInt_ofNat_of_lt (w := 32) (by omega)]
    omega

/-- With the label in range, the reference's result is the logarithm of the sum of the row's exponentials less the label's logit. -/
theorem entropy_apply (x : FVec Ideal S256x512 .f32) (w : FVec Ideal S512x8192 .f32) (lab : IVec S256 32) {i : Fin 256}
    {a : Fin 8192} (ha : lab (ix1 i) = BitVec.ofNat 32 a.val) :
    entropy x w lab (ix1 i) = Cert.Lse.lse (∑ j, Ideal.exp (logits x w (ix2 i j))) - logits x w (ix2 i a) := by
  have st := (stands_zero bot_ne_top).widen (M' := top (logits x w) (ix1 i)) (fun j => logits x w (ix2 i j))
    (by rw [top_apply, max_eq_right bot_le])
  rw [zero_mul, zero_add, zero_add, ← total_apply] at st
  rw [entropy, minus_apply, lse, join_apply, st.log, picked _ _ _ _ ha]

end Cert.ReferenceIdeal.Entropy

end
-- ==== Proof.KernelIdeal.Payloads.lean ====
/-
  The kernel's payloads over the extended reals, read element by element.
-/
module

public import proofs.«01_k».proof.Proof.KernelIdeal.Protocol
public import proofs.«01_k».proof.Proof.Lse
public import Idealize.ShloMosaic.Lib.Pointwise

@[expose] public section

noncomputable section

namespace Cert.KernelIdeal.Value

open Cert.KernelIdeal Cert.KernelIdeal.Gen Cert.KernelIdeal.Exchange
open Idealize.ShloMosaic
open Cert.Lse

/-- The pattern of −∞ denotes the least extended real. -/
theorem neg_inf : Ideal.ofBits .f32 0xFF800000#32 = (⊥ : EReal) := by
  simp [Ideal.ofBits, Ideal.ieee, -EReal.coe_mul]

/-- The kernel's starting shift is not +∞. -/
theorem start_ne_top : Ideal.ofBits .f32 0xF149F2CA#32 ≠ (⊤ : EReal) := by
  have real : ∃ m : ℝ, Ideal.ofBits .f32 0xF149F2CA#32 = (m : EReal) := ⟨_, by simp [Ideal.ofBits, Ideal.ieee, -EReal.coe_mul]; rfl⟩
  obtain ⟨m, hm⟩ := real
  exact hm ▸ EReal.coe_ne_top m

/-- A logit of a window: the row of activations times the column of weights. -/
theorem pay4_apply (x : Vec Ideal S256x512 .f32) (w : Vec Ideal S512x2048 .f32) (i : Fin 256) (k : Fin 2048) :
    k0_pay4 x w (ix2 i k) = ∑ q : Fin 512, x (ix2 i q) * w (ix2 q k) := by
  pointwise [k0_pay4]

/-- The running maximum widened by a window of logits. -/
theorem pay9_apply (v : FVec Ideal S256 .f32) (l : FVec Ideal S256x2048 .f32) (i : Fin 256) :
    k0_pay9 v l (ix1 i) = max (v (ix1 i)) ((Finset.univ : Finset (Fin 2048)).fold max ⊥ fun k => l (ix2 i k)) := by
  rw [← neg_inf]
  pointwise [k0_pay9]

/-- The running sum taken to the new maximum, and the window's exponentials. -/
theorem pay10_apply (v s : FVec Ideal S256 .f32) (l : FVec Ideal S256x2048 .f32) (i : Fin 256) :
    k0_pay10 v s l (ix1 i) = s (ix1 i) * Ideal.exp (v (ix1 i) - k0_pay9 v l (ix1 i))
      + ∑ k : Fin 2048, Ideal.exp (l (ix2 i k) - k0_pay9 v l (ix1 i)) := by
  pointwise [k0_pay10]

/-- The third value widened by the second window: the logit at the column whose number is the label's word less 2048. -/
theorem pay11_apply (b : IVec S256 32) (o : IVec S256x2048 32) (t : FVec Ideal S256 .f32) (l : FVec Ideal S256x2048 .f32) (i : Fin 256) :
    k0_pay11 b o t l (ix1 i)
      = t (ix1 i) + ∑ k : Fin 2048, Scalar.select (IntOp.cmpi .eq (o (ix2 i k)) (b (ix1 i) - 2048#32)) (l (ix2 i k)) 0 := by
  pointwise [k0_pay11]
  rfl

/-- The third value after the first window. -/
theorem pay7_apply (x : Vec Ideal S256x512 .f32) (b : IVec S256 32) (w : Vec Ideal S512x2048 .f32) (i : Fin 256) :
    k0_pay7 x b w (ix1 i)
      = ∑ k : Fin 2048, Scalar.select (IntOp.cmpi .eq (BitVec.ofNat 32 k.val) (b (ix1 i) - 0#32)) (k0_pay4 x w (ix2 i k)) 0 := by
  pointwise [k0_pay7]
  rfl

/-- The number of the first column of a device's half, as the kernel computes it from the device's number. -/
theorem base_word : ∀ c : Dev nD, Scalar.muli (Scalar.remsi (Scalar.divsi c.word 1#32) 2#32) 4096#32 = BitVec.ofNat 32 (4096 * (c.val % 2)) := by
  decide

/-- The label's word less the number of the first column of the device's half. -/
theorem pay2_apply (c : Dev nD) (v : Vec Ideal S1x256 .i32) (i : Fin 256) :
    k0_pay2 c v (ix1 i) = v (ix2 0 i) - BitVec.ofNat 32 (4096 * (c.val % 2)) := by
  rw [← base_word]
  pointwise [k0_pay2]
  rfl

/-- The column numbers. -/
theorem columns_apply (i : Fin 256) (k : Fin 2048) : iota .tc S256x2048 32 [1] iota_S256x2048_d1_w32 (ix2 i k) = BitVec.ofNat 32 k.val := by
  pointwise

/-- The result: the merged shift plus the logarithm of the merged sum, less the sum of the two third values. -/
theorem pay1_apply (a s t : FVec Ideal S256 .f32) (a' s' t' : Vec Ideal S1x256 .f32) (i : Fin 256) :
    k0_pay1 a s t a' s' t' (ix1 i)
      = max (a (ix1 i)) (a' (ix2 0 i)) + Ideal.log (s (ix1 i) * Ideal.exp (a (ix1 i) - max (a (ix1 i)) (a' (ix2 0 i)))
          + s' (ix2 0 i) * Ideal.exp (a' (ix2 0 i) - max (a (ix1 i)) (a' (ix2 0 i)))) - (t (ix1 i) + t' (ix2 0 i)) := by
  pointwise [k0_pay1]

/-- Whether a window's column number is the label's word less the first column's number of the half and of the window. -/
theorem column_iff (a y s k : Nat) (ha : a < 8192) (hy : y < 2) (hs : s < 2) (hk : k < 2048) :
    BitVec.ofNat 32 k = BitVec.ofNat 32 a - BitVec.ofNat 32 (4096 * y) - BitVec.ofNat 32 (2048 * s) ↔ 2048 * (2 * y + s) + k = a := by
  rw [← BitVec.toNat_inj]
  simp only [BitVec.toNat_sub, BitVec.toNat_ofNat]
  omega

/-- What a window adds to the third value: the label's logit if the label is one of the window's columns, zero otherwise. -/
theorem window_pick (row : Fin 8192 → EReal) (a : Fin 8192) (y s : Nat) (hy : y < 2) (hs : s < 2) (q : Fin 4) (hq : q.val = 2 * y + s)
    (b : BitVec 32) (hb : b = BitVec.ofNat 32 (2048 * s)) (l : Fin 2048 → EReal)
    (hl : ∀ k : Fin 2048, l k = row ⟨2048 * q.val + k.val, by omega⟩) :
    (∑ k : Fin 2048, Scalar.select (IntOp.cmpi .eq (BitVec.ofNat 32 k.val) (BitVec.ofNat 32 a.val - BitVec.ofNat 32 (4096 * y) - b)) (l k) 0)
      = window (fun j => if j = a then row j else 0) q := by
  subst hb
  unfold window
  refine Finset.sum_congr rfl fun k _ => ?_
  have h := column_iff a.val y s k.val a.isLt hy hs k.isLt
  rw [← hq] at h
  rw [hl k]
  show _ = if (⟨2048 * q.val + k.val, by omega⟩ : Fin 8192) = a then row ⟨2048 * q.val + k.val, by omega⟩ else 0
  by_cases e : 2048 * q.val + k.val = a.val
  · rw [if_pos (Fin.ext e), show IntOp.cmpi .eq (BitVec.ofNat 32 k.val)
        (BitVec.ofNat 32 a.val - BitVec.ofNat 32 (4096 * y) - BitVec.ofNat 32 (2048 * s)) = 1#1 from by
      simp only [IntOp.cmpi, beq_iff_eq.2 (h.2 e)]; rfl]
    rfl
  · rw [if_neg (fun e' : (⟨2048 * q.val + k.val, _⟩ : Fin 8192) = a => e (congrArg Fin.val e')), show IntOp.cmpi .eq (BitVec.ofNat 32 k.val)
        (BitVec.ofNat 32 a.val - BitVec.ofNat 32 (4096 * y) - BitVec.ofNat 32 (2048 * s)) = 0#1 from by
      simp only [IntOp.cmpi, beq_eq_false_iff_ne.2 (mt h.1 e)]; rfl]
    rfl

end Cert.KernelIdeal.Value

end
-- ==== Proof.KernelIdeal.Value.lean ====
/-
  The kernel's values over the extended reals, element by element.

  A device's running maximum and exponential sum stand for the sum of the exponentials of its half of a row, its third value
  is the label's logit or zero, and merged with its peer's they give the logarithm of the whole row's sum less the label's logit.
-/
module

public import proofs.«01_k».proof.Proof.KernelIdeal.Payloads
public import Idealize.ShloMosaic.Lib.Pointwise

@[expose] public section

noncomputable section

namespace Cert.KernelIdeal.Value

open Cert.KernelIdeal Cert.KernelIdeal.Gen Cert.KernelIdeal.Exchange
open Idealize.ShloMosaic
open Cert.Lse

variable (m : (ℓ : Loc nD τ sig) → Buf (Elt Ideal) ℓ)

/-- A device's activations. -/
abbrev acts (c : Dev nD) : Vec Ideal S256x512 .f32 := m ((c.tc : Thread nD τ).loc main_arg0)
/-- A device's half of the weights' columns. -/
abbrev weights (c : Dev nD) : Vec Ideal S512x4096 .f32 := m ((c.tc : Thread nD τ).loc main_arg1)
/-- A device's labels. -/
abbrev labels (c : Dev nD) : Vec Ideal S256 .i32 := m ((c.tc : Thread nD τ).loc main_arg2)

/-- The activations a device reads on chip are its first argument. -/
theorem xVal_apply (c : Dev nD) (i : Fin 256) (q : Fin 512) : xVal m c (ix2 i q) = acts m c (ix2 i q) := by
  rw [show xVal m c = View.ld (V m c main_arg0) rectX from rfl, V_main_arg0]
  pointwise

/-- The first window of weights is the first 2048 columns of its second argument. -/
theorem w0Val_apply (c : Dev nD) (q : Fin 512) (k : Fin 2048) :
    w0Val m c (ix2 q k) = weights m c (ix2 q ⟨k.val, by omega⟩) := by
  rw [show w0Val m c = View.ld (V m c main_arg1) rect0 from rfl, V_main_arg1]
  pointwise

/-- The second window of weights is the last 2048. -/
theorem w1Val_apply (c : Dev nD) (q : Fin 512) (k : Fin 2048) :
    w1Val m c (ix2 q k) = weights m c (ix2 q ⟨2048 + k.val, by omega⟩) := by
  rw [show w1Val m c = View.ld (V m c main_arg1) rect1 from rfl, V_main_arg1]
  pointwise

/-- The labels, laid out as one row. -/
theorem labVal_apply (c : Dev nD) (i : Fin 256) : labVal m c (ix2 0 i) = labels m c (ix1 i) := by
  have e : V m c main_v1 = shapeCast S1x256 (labels m c) shapeCasts_S256_S1x256 := by
    show StableHlo.after hostOps0 (fun b => m (c, b)) (Proc.devRef .tc main_v1) = _
    after_results_simp <;> rfl
  rw [show labVal m c = View.ld (V m c main_v1) rectL from rfl, e]
  pointwise

/-- Which half of a row's columns a device holds. -/
def side (c : Dev nD) : Fin 2 := ⟨c.val % 2, by omega⟩

/-- A device and its peer hold different halves. -/
theorem side_peer : ∀ c : Dev nD, side c ≠ side (peer c) := by decide

section Device

variable {m} {c : Dev nD} {i : Fin 256} {row : Fin 8192 → EReal}
  (h : ∀ k : Fin 4096, (∑ q : Fin 512, acts m c (ix2 i q) * weights m c (ix2 q k))
    = row ⟨4096 * (c.val % 2) + k.val, by omega⟩)

include h in
/-- The first window's logits are the row's. -/
theorem logit0 (k : Fin 2048) :
    k0_pay4 (xVal m c) (w0Val m c) (ix2 i k) = row ⟨2048 * (2 * (side c).val) + k.val, by have := (side c).isLt; omega⟩ := by
  rw [pay4_apply]
  simp only [xVal_apply, w0Val_apply]
  refine (h ⟨k.val, by omega⟩).trans (congrArg row (Fin.ext ?_))
  show 4096 * (c.val % 2) + k.val = 2048 * (2 * (c.val % 2)) + k.val
  omega

include h in
/-- The second window's logits are the row's. -/
theorem logit1 (k : Fin 2048) :
    log1 m c (ix2 i k) = row ⟨2048 * (2 * (side c).val + 1) + k.val, by have := (side c).isLt; omega⟩ := by
  rw [show log1 m c = k0_pay4 (xVal m c) (w1Val m c) from rfl, pay4_apply]
  simp only [xVal_apply, w1Val_apply]
  refine (h ⟨2048 + k.val, by omega⟩).trans (congrArg row (Fin.ext ?_))
  show 4096 * (c.val % 2) + (2048 + k.val) = 2048 * (2 * (c.val % 2) + 1) + k.val
  omega

include h in
/-- After both windows the running maximum and sum stand for the exponentials of the device's half of the row. -/
theorem device_stands : Stands (max1 m c (ix1 i)) (sum1 m c (ix1 i)) (half (fun j => Ideal.exp (row j)) (side c)) := by
  have s0 : Stands (max0 m c (ix1 i)) (sum0 m c (ix1 i)) (0 + window (fun j => Ideal.exp (row j)) ⟨2 * (side c).val, by omega⟩) := by
    have e : max0 m c = k0_pay9 k0_pay3 (k0_pay4 (xVal m c) (w0Val m c)) := rfl
    have e' : sum0 m c = k0_pay10 k0_pay3 (broadcast S256 (Scalar.ofBits .f32 0x00000000#32)) (k0_pay4 (xVal m c) (w0Val m c)) := rfl
    have z : (broadcast S256 (Scalar.ofBits (F := Ideal) .f32 0x00000000#32) : FVec Ideal S256 .f32) (ix1 i) = 0 := Ideal.ofBits_zero_f32
    have b : (k0_pay3 (F := Ideal)) (ix1 i) = Ideal.ofBits .f32 0xF149F2CA#32 := rfl
    have hM : max0 m c (ix1 i) = max (Ideal.ofBits .f32 0xF149F2CA#32) ((Finset.univ : Finset (Fin 2048)).fold max ⊥
        fun k => row ⟨2048 * (2 * (side c).val) + k.val, by have := (side c).isLt; omega⟩) := by
      rw [e, pay9_apply, b]
      simp only [logit0 h]
    have hS := pay10_apply k0_pay3 (broadcast S256 (Scalar.ofBits .f32 0x00000000#32)) (k0_pay4 (xVal m c) (w0Val m c)) i
    rw [← e, ← e', z, b] at hS
    simp only [logit0 h] at hS
    rw [hS]
    exact (stands_zero start_ne_top).widen (fun k : Fin 2048 => row ⟨2048 * (2 * (side c).val) + k.val, by have := (side c).isLt; omega⟩) hM
  rw [zero_add] at s0
  have e' : sum1 m c = k0_pay10 (max0 m c) (sum0 m c) (log1 m c) := rfl
  have e : max1 m c = k0_pay9 (max0 m c) (log1 m c) := rfl
  rw [e', pay10_apply, ← e]
  simp only [logit1 h]
  refine s0.widen (fun k : Fin 2048 => row ⟨2048 * (2 * (side c).val + 1) + k.val, by have := (side c).isLt; omega⟩) ?_
  rw [e, pay9_apply]
  simp only [logit1 h]

include h in
/-- After both windows the third value is the label's logit if the label is in the device's half, zero otherwise. -/
theorem device_target {a : Fin 8192} (ha : labels m c (ix1 i) = BitVec.ofNat 32 a.val) :
    tgt1 m c (ix1 i) = half (fun j => if j = a then row j else 0) (side c) := by
  unfold tgt1
  rw [pay11_apply]
  unfold tgt0
  rw [pay7_apply, pay2_apply, labVal_apply, ha]
  have p0 := window_pick row a (side c).val 0 (side c).isLt (by omega) ⟨2 * (side c).val, by omega⟩ rfl 0#32 rfl
    (fun k => k0_pay4 (xVal m c) (w0Val m c) (ix2 i k)) (logit0 h)
  have p1 := window_pick row a (side c).val 1 (side c).isLt (by omega) ⟨2 * (side c).val + 1, by omega⟩ rfl 2048#32 rfl
    (fun k => log1 m c (ix2 i k)) (logit1 h)
  rw [half, ← p0, ← p1]
  rw [show c.val % 2 = (side c).val from rfl]
  exact congrArg₂ (· + ·) rfl (Finset.sum_congr rfl fun k _ =>
    congrArg (fun w => Scalar.select (IntOp.cmpi .eq w (BitVec.ofNat 32 a.val - BitVec.ofNat 32 (4096 * (side c).val) - 2048#32))
      (log1 m c (ix2 i k)) 0) (columns_apply i k))

end Device

/-- The kernel's result on every device: the logarithm of the sum of the row's exponentials, less the label's logit. -/
theorem result_apply {i : Fin 256} {row : Fin 8192 → EReal} {a : Fin 8192}
    (logit : ∀ (c : Dev nD) (k : Fin 4096) (j : Fin 8192), j.val = 4096 * (c.val % 2) + k.val →
      (∑ q : Fin 512, acts m c (ix2 i q) * weights m c (ix2 q k)) = row j)
    (ha : ∀ c : Dev nD, labels m c (ix1 i) = BitVec.ofNat 32 a.val) (c : Dev nD) :
    result m c (ix1 i) = lse (∑ j, Ideal.exp (row j)) - row a := by
  have h := fun (c : Dev nD) (k : Fin 4096) => logit c k ⟨4096 * (c.val % 2) + k.val, by omega⟩ rfl
  unfold result
  have o0 : out0 m (peer c) (ix2 0 i) = max1 m (peer c) (ix1 i) := by unfold out0 max1; pointwise [k0_pay12]
  have o1 : out1 m (peer c) (ix2 0 i) = sum1 m (peer c) (ix1 i) := by unfold out1 sum1; pointwise [k0_pay13]
  have o2 : out2 m (peer c) (ix2 0 i) = tgt1 m (peer c) (ix1 i) := by unfold out2 tgt1; pointwise [k0_pay14]
  rw [pay1_apply, o0, o1, o2, ((device_stands (h c)).merge (device_stands (h (peer c)))).log, device_target (h c) (ha c),
    device_target (h (peer c)) (ha (peer c)), sum_halves _ _ _ (side_peer c), sum_halves _ _ _ (side_peer c), sum_pick]

end Cert.KernelIdeal.Value

end
-- ==== Proof.Equal.lean ====
/-
  Over the extended reals the four devices and the reference end with one result.

  The activations and labels are the same on every device, and a device's weights are its half of the whole array's columns; so a
  row's logits are the same on both sides, and both sides compute the logarithm of their exponentials' sum less the label's logit.
-/
module

public import proofs.«01_k».proof.Defs
public import proofs.«01_k».proof.Proof.Precond
public import proofs.«01_k».proof.Proof.Reference
public import proofs.«01_k».proof.Proof.KernelIdeal.Value
public import proofs.«01_k».proof.Proof.Gen.Pre_labels_in_range_KernelIdeal

@[expose] public section

noncomputable section

namespace Cert.Equal

open Idealize.ShloMosaic
open Cert.KernelIdeal.Value (acts weights labels)

/-- The whole weights, of 8192 columns. -/
abbrev Whole := FVec Ideal Cert.ReferenceIdeal.S512x8192 .f32

/-- A device's half of the whole weights. -/
abbrev part (w : Whole) (c : Dev Cert.KernelIdeal.nD) : FVec Ideal Cert.KernelIdeal.S512x4096 .f32 :=
  Layout.blockN ⟨2, ![512, 4096]⟩ ⟨2, ![512, 8192]⟩ (Layout.meshBlock [2, 2] ![[], [1]] c) w

/-- The place of a device along the two axes the weights are cut by. -/
theorem place (c : Dev Cert.KernelIdeal.nD) : Layout.meshLin [2, 2] c.val [] = 0 ∧ Layout.meshLin [2, 2] c.val [1] = c.val % 2 := by
  revert c; decide

/-- Column k of device c's half is column 4096 (c mod 2) + k of the whole. -/
theorem part_apply (w : Whole) (c : Dev Cert.KernelIdeal.nD) (q : Fin 512) (k : Fin 4096) (j : Fin 8192)
    (hj : j.val = 4096 * (c.val % 2) + k.val) : part w c (ix2 q k) = w (ix2 q j) := by
  refine congrArg w (funext fun b => Fin.ext ?_)
  match b with
  | ⟨0, _⟩ =>
    show Layout.meshLin [2, 2] c.val [] * 512 + q.val = q.val
    rw [(place c).1]; omega
  | ⟨1, _⟩ =>
    show Layout.meshLin [2, 2] c.val [1] * 4096 + k.val = j.val
    rw [(place c).2]; omega

/-- The result every device ends with is the reference's. -/
theorem result_eq (m : (ℓ : Loc Cert.KernelIdeal.nD Cert.KernelIdeal.τ Cert.KernelIdeal.sig) → Buf (Elt Ideal) ℓ)
    (x : FVec Ideal Cert.ReferenceIdeal.S256x512 .f32) (w : Whole) (lab : IVec Cert.ReferenceIdeal.S256 32)
    (hx : ∀ c, acts m c = x) (hw : ∀ c, weights m c = part w c) (hl : ∀ c, labels m c = lab)
    (rl : ∀ j, ∃ a : Fin 8192, lab j = BitVec.ofNat 32 a.val) (c : Dev Cert.KernelIdeal.nD) :
    Cert.KernelIdeal.Exchange.result m c = Cert.ReferenceIdeal.Entropy.entropy x w lab := by
  funext j
  obtain ⟨i, rfl⟩ : ∃ i : Fin 256, j = ix1 i := ⟨j 0, eq_ix1 j⟩
  obtain ⟨a, ha⟩ := rl (ix1 i)
  rw [Cert.ReferenceIdeal.Entropy.entropy_apply x w lab ha]
  refine Cert.KernelIdeal.Value.result_apply m (row := fun j => Cert.ReferenceIdeal.Entropy.logits x w (ix2 i j))
    (fun c k j hj => ?_) (fun c => (congrFun (hl c) _).trans ha) c
  rw [Cert.ReferenceIdeal.Entropy.logits_apply]
  refine Finset.sum_congr rfl fun q _ => ?_
  exact congrArg₂ (fun u v : EReal => u * v) (congrFun (hx c) _) ((congrFun (hw c) _).trans (part_apply w c q k j hj))

end Cert.Equal

end
-- ==== Proof.lean ====
module

public import proofs.«01_k».proof.Defs
public import proofs.«01_k».proof.Proof.Gen.ReferenceIdeal.Run
public import proofs.«01_k».proof.Proof.Kernel.Launch
public import proofs.«01_k».proof.Proof.KernelIdeal.Launch
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_labels_in_range_KernelIdeal
public import proofs.«01_k».proof.Proof.Gen.Pre_labels_in_range_ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs on its word-valued memory, leaves its arguments and every counter as they were. -/
theorem frame_kernel : Cert.quiescent_Kernel (hKernel := Cert.Kernel.Gen.facts) := fun m g _ =>
  (θ_run _ _ _).mono (fun _ h => ⟨fun c => (h.1 c).2, h.2⟩) (Cert.Kernel.Exchange.run_main (F := Bits) m g)

/-- The same of the kernel read over the extended reals. -/
theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.Exchange.run_main (F := Ideal) m g)

/-- The reference runs and leaves its arguments as they were; it declares no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- With the labels in range, every device of the kernel ends with the reference's result, over the extended reals. -/
theorem equal : Cert.algebraic_KernelIdeal_ReferenceIdeal_pre_labels_in_range_KernelIdeal
    (hKernelIdeal := Cert.KernelIdeal.Gen.facts) (hReferenceIdeal := Cert.ReferenceIdeal.Gen.facts)
    (hPre_labels_in_range_KernelIdeal := Cert.Pre_labels_in_range_KernelIdeal.Gen.facts) := by
  intro m g m' g' pre arg
  have key := Cert.Equal.result_eq m _ _ _ (fun c => (arg c).1) (fun c => (arg c).2.1) (fun c => (arg c).2.2)
    (fun j => by
      rw [← (arg 0).2.2]
      exact @Cert.Precond.labels Cert.Pre_labels_in_range_KernelIdeal.Gen.facts _ _ _ (pre 0) j)
  refine ⟨Cert.ReferenceIdeal.Entropy.entropy _ _ _,
    (θ_run _ _ _).mono (fun _ h c => ⟨(h.1 c).1.trans (key c), (h.1 c).2⟩) (Cert.KernelIdeal.Exchange.run_main (F := Ideal) m g),
    (θ_run _ _ _).mono (fun _ h => h 0) (Cert.ReferenceIdeal.Value.run (F := Ideal) m' g')⟩

/-- Everything claimed: the three programs run and leave their arguments as they were, the idealized kernel computes what the
    kernel computes, and the idealized kernel's result is the reference's. -/
theorem claim : Cert.Claim := ⟨Cert.Kernel.Gen.facts, Cert.KernelIdeal.Gen.facts, Cert.ReferenceIdeal.Gen.facts,
  Cert.Pre_labels_in_range_KernelIdeal.Gen.facts, Cert.Pre_labels_in_range_ReferenceIdeal.Gen.facts,
  frame_kernel, frame_kernelIdeal, fun m g _ => frame_kernelIdeal m g trivial, frame_reference,
  fun m g _ => frame_reference m g trivial, trivial, equal⟩

end Cert.Proof

end
